-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S7x512x512 : Shape := ⟨3, ![7, 512, 512]⟩
abbrev S2x512x8192 : Shape := ⟨3, ![2, 512, 8192]⟩
abbrev S7 : Shape := ⟨1, ![7]⟩
abbrev S2 : Shape := ⟨1, ![2]⟩
abbrev S_ : Shape := ⟨0, ![]⟩
abbrev S1x512x8192 : Shape := ⟨3, ![1, 512, 8192]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S512x8192, .f32⟩
  | .local _ .vmem, ⟨1, _⟩ => ⟨S4096x512, .fp8e4m3⟩
  | .local _ .vmem, ⟨2, _⟩ => ⟨S7x512x512, .fp8e4m3⟩
  | .local _ .vmem, ⟨3, _⟩ => ⟨S2x512x8192, .f32⟩
  | .local _ .vmem, ⟨4, _⟩ => ⟨S4096x512, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32 : BitVec 32 := 512#32
  let v6 : BitVec 32 := Scalar.muli v5 c512_i32
  let c0_i32_6 : BitVec 32 := 0#32
  ![v6.toNat, 0]
@[reducible] def k0_t1_loop : Scf.Loop 32 :=
  let c1_i32_19 : BitVec 32 := 1#32
  let c7_i32 : BitVec 32 := 7#32
  let v27 : BitVec 32 := Scalar.addi c1_i32_19 c7_i32
  let c1_i32_20 : BitVec 32 := 1#32
  ⟨c1_i32_19, v27, c1_i32_20⟩
def k0_dev1 (d0 : Dev nD) (k0_t1 : Fin k0_t1_loop.trips) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let c1_i32_20 : BitVec 32 := 1#32
  let arg13 : BitVec 32 := Scf.iv c1_i32_19 c1_i32_20 k0_t1
  let v56 : BitVec 32 := Scalar.addi v2 arg13
  let c8_i32_57 : BitVec 32 := 8#32
  let v57 : BitVec 32 := Scalar.remsi v56 c8_i32_57
  let c1_i32_59 : BitVec 32 := 1#32
  let v58 : BitVec 32 := Scalar.muli v57 c1_i32_59
  let v59 : BitVec 32 := Scalar.addi c0_i32_60 v58
  v59.toNat
@[reducible] def k0_t2_loop : Scf.Loop 32 :=
  let c1_i32_23 : BitVec 32 := 1#32
  let c7_i32_24 : BitVec 32 := 7#32
  let v28 : BitVec 32 := Scalar.addi c1_i32_23 c7_i32_24
  let c1_i32_25 : BitVec 32 := 1#32
  ⟨c1_i32_23, v28, c1_i32_25⟩
def k0_off2 (k0_t2 : Fin k0_t2_loop.trips) : Fin 1 → Nat :=
  let c1_i32_23 : BitVec 32 := 1#32
  let c1_i32_25 : BitVec 32 := 1#32
  let arg13 : BitVec 32 := Scf.iv c1_i32_23 c1_i32_25 k0_t2
  let c1_i32_60 : BitVec 32 := 1#32
  let v60 : BitVec 32 := Scalar.subi arg13 c1_i32_60
  ![v60.toNat]
def k0_off3 (k0_t2 : Fin k0_t2_loop.trips) : Fin 3 → Nat :=
  let c1_i32_23 : BitVec 32 := 1#32
  let c1_i32_25 : BitVec 32 := 1#32
  let arg13 : BitVec 32 := Scf.iv c1_i32_23 c1_i32_25 k0_t2
  let c1_i32_59 : BitVec 32 := 1#32
  let v59 : BitVec 32 := Scalar.subi arg13 c1_i32_59
  let c0_i32_64 : BitVec 32 := 0#32
  let c0_i32_65 : BitVec 32 := 0#32
  ![v59.toNat, 0, 0]
def k0_off4 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let c1_i32_25 : BitVec 32 := 1#32
  let arg13 : BitVec 32 := Scf.iv c1_i32_23 c1_i32_25 k0_t2
  let v56 : BitVec 32 := Scalar.addi v2 arg13
  let c8_i32_57 : BitVec 32 := 8#32
  let v57 : BitVec 32 := Scalar.remsi v56 c8_i32_57
  let c512_i32_58 : BitVec 32 := 512#32
  let v58 : BitVec 32 := Scalar.muli v57 c512_i32_58
  let c0_i32_66 : BitVec 32 := 0#32
  ![v58.toNat, 0]
def k0_dev2 (d0 : Dev nD) (k0_t2 : Fin k0_t2_loop.trips) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let c1_i32_25 : BitVec 32 := 1#32
  let arg13 : BitVec 32 := Scf.iv c1_i32_23 c1_i32_25 k0_t2
  let v56 : BitVec 32 := Scalar.addi v2 arg13
  let c8_i32_57 : BitVec 32 := 8#32
  let v57 : BitVec 32 := Scalar.remsi v56 c8_i32_57
  let c1_i32_62 : BitVec 32 := 1#32
  let v62 : BitVec 32 := Scalar.muli v57 c1_i32_62
  let v63 : BitVec 32 := Scalar.addi c0_i32_63 v62
  v63.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_38 : BitVec 32 := 512#32
  let v41 : BitVec 32 := Scalar.muli v2 c512_i32_38
  let v42 : Index := Scalar.indexCast v41
  let c0_39 : Index := 0#32
  ![v42.toNat, 0]
@[reducible] def k0_t3_loop : Scf.Loop 32 :=
  let c1_i32_45 : BitVec 32 := 1#32
  let c7_i32_46 : BitVec 32 := 7#32
  let v49 : BitVec 32 := Scalar.addi c1_i32_45 c7_i32_46
  let c1_i32_47 : BitVec 32 := 1#32
  ⟨c1_i32_45, v49, c1_i32_47⟩
def k0_cond1 (k0_t3 : Fin k0_t3_loop.trips) : BitVec 1 :=
  let c1_i32_45 : BitVec 32 := 1#32
  let c1_i32_47 : BitVec 32 := 1#32
  let arg13 : BitVec 32 := Scf.iv c1_i32_45 c1_i32_47 k0_t3
  let c1_i32_57 : BitVec 32 := 1#32
  let v57 : BitVec 32 := Scalar.addi arg13 c1_i32_57
  let c8_i32_58 : BitVec 32 := 8#32
  let v58 : BitVec 1 := Scalar.cmpi .slt v57 c8_i32_58
  let v59 : BitVec 32 := Scalar.extui v58
  let c0_i32_59 : BitVec 32 := 0#32
  let v60 : BitVec 1 := Scalar.cmpi .ne v59 c0_i32_59
  v60

def k0_off6 (k0_t3 : Fin k0_t3_loop.trips) : Fin 1 → Nat :=
  let c1_i32_86 : BitVec 32 := 1#32
  let c1_i32_45 : BitVec 32 := 1#32
  let c1_i32_47 : BitVec 32 := 1#32
  let arg13 : BitVec 32 := Scf.iv c1_i32_45 c1_i32_47 k0_t3
  let c2_i32 : BitVec 32 := 2#32
  let v56 : BitVec 32 := Scalar.remsi arg13 c2_i32
  let v93 : BitVec 32 := Scalar.subi c1_i32_86 v56
  ![v93.toNat]
def k0_off7 (k0_t3 : Fin k0_t3_loop.trips) : Fin 3 → Nat :=
  let c1_i32_86 : BitVec 32 := 1#32
  let c1_i32_45 : BitVec 32 := 1#32
  let c1_i32_47 : BitVec 32 := 1#32
  let arg13 : BitVec 32 := Scf.iv c1_i32_45 c1_i32_47 k0_t3
  let c2_i32 : BitVec 32 := 2#32
  let v56 : BitVec 32 := Scalar.remsi arg13 c2_i32
  let v93 : BitVec 32 := Scalar.subi c1_i32_86 v56
  let c0_i32_90 : BitVec 32 := 0#32
  let c0_i32_91 : BitVec 32 := 0#32
  ![v93.toNat, 0, 0]
def k0_off8 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let c1_i32_47 : BitVec 32 := 1#32
  let arg13 : BitVec 32 := Scf.iv c1_i32_45 c1_i32_47 k0_t3
  let c1_i32_85 : BitVec 32 := 1#32
  let v92 : BitVec 32 := Scalar.addi arg13 c1_i32_85
  let v94 : BitVec 32 := Scalar.subi v2 v92
  let c8_i32_87 : BitVec 32 := 8#32
  let v95 : BitVec 32 := Scalar.addi v94 c8_i32_87
  let c8_i32_88 : BitVec 32 := 8#32
  let v96 : BitVec 32 := Scalar.remsi v95 c8_i32_88
  let c512_i32_89 : BitVec 32 := 512#32
  let v97 : BitVec 32 := Scalar.muli v96 c512_i32_89
  let c0_i32_92 : BitVec 32 := 0#32
  ![v97.toNat, 0]
def k0_off9 (k0_t3 : Fin k0_t3_loop.trips) : Fin 1 → Nat :=
  let c1_i32_45 : BitVec 32 := 1#32
  let c1_i32_47 : BitVec 32 := 1#32
  let arg13 : BitVec 32 := Scf.iv c1_i32_45 c1_i32_47 k0_t3
  let c2_i32 : BitVec 32 := 2#32
  let v56 : BitVec 32 := Scalar.remsi arg13 c2_i32
  ![v56.toNat]
def k0_off10 (k0_t3 : Fin k0_t3_loop.trips) : Fin 3 → Nat :=
  let c1_i32_45 : BitVec 32 := 1#32
  let c1_i32_47 : BitVec 32 := 1#32
  let arg13 : BitVec 32 := Scf.iv c1_i32_45 c1_i32_47 k0_t3
  let c2_i32 : BitVec 32 := 2#32
  let v56 : BitVec 32 := Scalar.remsi arg13 c2_i32
  let c0_i32_63 : BitVec 32 := 0#32
  let c0_i32_64 : BitVec 32 := 0#32
  ![v56.toNat, 0, 0]
def k0_off11 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let c1_i32_47 : BitVec 32 := 1#32
  let arg13 : BitVec 32 := Scf.iv c1_i32_45 c1_i32_47 k0_t3
  let v61 : BitVec 32 := Scalar.subi v2 arg13
  let c8_i32_60 : BitVec 32 := 8#32
  let v62 : BitVec 32 := Scalar.addi v61 c8_i32_60
  let c8_i32_61 : BitVec 32 := 8#32
  let v63 : BitVec 32 := Scalar.remsi v62 c8_i32_61
  let c512_i32_62 : BitVec 32 := 512#32
  let v64 : BitVec 32 := Scalar.muli v63 c512_i32_62
  let c0_i32_65 : BitVec 32 := 0#32
  ![v64.toNat, 0]
def k0_off12 (k0_t3 : Fin k0_t3_loop.trips) : Fin 1 → Nat :=
  let c1_i32_45 : BitVec 32 := 1#32
  let c1_i32_47 : BitVec 32 := 1#32
  let arg13 : BitVec 32 := Scf.iv c1_i32_45 c1_i32_47 k0_t3
  let c1_i32_67 : BitVec 32 := 1#32
  let v71 : BitVec 32 := Scalar.subi arg13 c1_i32_67
  ![v71.toNat]
def k0_off13 (k0_t3 : Fin k0_t3_loop.trips) : Fin 3 → Nat :=
  let c1_i32_45 : BitVec 32 := 1#32
  let c1_i32_47 : BitVec 32 := 1#32
  let arg13 : BitVec 32 := Scf.iv c1_i32_45 c1_i32_47 k0_t3
  let c1_i32_66 : BitVec 32 := 1#32
  let v70 : BitVec 32 := Scalar.subi arg13 c1_i32_66
  let c0_i32_71 : BitVec 32 := 0#32
  let c0_i32_72 : BitVec 32 := 0#32
  ![v70.toNat, 0, 0]
def k0_off14 (k0_t3 : Fin k0_t3_loop.trips) : Fin 3 → Nat :=
  let c1_i32_45 : BitVec 32 := 1#32
  let c1_i32_47 : BitVec 32 := 1#32
  let arg13 : BitVec 32 := Scf.iv c1_i32_45 c1_i32_47 k0_t3
  let c1_i32_77 : BitVec 32 := 1#32
  let v81 : BitVec 32 := Scalar.subi arg13 c1_i32_77
  let v82 : Index := Scalar.indexCast v81
  let c0_78 : Index := 0#32
  let c0_79 : Index := 0#32
  ![v82.toNat, 0, 0]
def k0_off15 (k0_t3 : Fin k0_t3_loop.trips) : Fin 3 → Nat :=
  let c1_i32_45 : BitVec 32 := 1#32
  let c1_i32_47 : BitVec 32 := 1#32
  let arg13 : BitVec 32 := Scf.iv c1_i32_45 c1_i32_47 k0_t3
  let c2_i32 : BitVec 32 := 2#32
  let v56 : BitVec 32 := Scalar.remsi arg13 c2_i32
  let v85 : Index := Scalar.indexCast v56
  let c0_80 : Index := 0#32
  let c0_81 : Index := 0#32
  ![v85.toNat, 0, 0]
@[reducible] def k0_t4_loop : Scf.Loop 32 :=
  let c1_i32_53 : BitVec 32 := 1#32
  let c7_i32_54 : BitVec 32 := 7#32
  let v55 : BitVec 32 := Scalar.addi c1_i32_53 c7_i32_54
  let c1_i32_55 : BitVec 32 := 1#32
  ⟨c1_i32_53, v55, c1_i32_55⟩
def k0_off16 (k0_t4 : Fin k0_t4_loop.trips) : Fin 1 → Nat :=
  let c1_i32_53 : BitVec 32 := 1#32
  let c1_i32_55 : BitVec 32 := 1#32
  let arg13 : BitVec 32 := Scf.iv c1_i32_53 c1_i32_55 k0_t4
  let c1_i32_57 : BitVec 32 := 1#32
  let v56 : BitVec 32 := Scalar.subi arg13 c1_i32_57
  ![v56.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Base.lean ====
/- The names the proof uses for the kernel's parts: devices at a distance, blocks and slots as memrefs, semaphore cells,
   and what each holds. Everything is stated for any float values. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices at a distance -/

/-- The device `k + 1` places after `c` around the mesh: whom trip `k` of `c` signals and sends to. -/
def up (c : Dev nD) (k : Fin 7) : Dev nD := ⟨(c.val + k.val + 1) % 8, Nat.mod_lt _ (by decide)⟩
/-- The device `d` places before `c`. -/
def dn (c : Dev nD) (d : ℕ) : Dev nD := ⟨(c.val + 8 - d) % 8, Nat.mod_lt _ (by decide)⟩
/-- The trip counted from the other end: `up (up c k) (rev k) = c`. -/
def rev (k : Fin 7) : Fin 7 := ⟨6 - k.val, by omega⟩

theorem up_up_rev (c : Dev nD) (k : Fin 7) : up (up c k) (rev k) = c := by revert c k; decide
theorem up_rev_up (c : Dev nD) (k : Fin 7) : up (up c (rev k)) k = c := by revert c k; decide
theorem rev_rev (k : Fin 7) : rev (rev k) = k := by revert k; decide
theorem dn_up (c : Dev nD) (k : Fin 7) : dn (up c k) (k.val + 1) = c := by revert c k; decide
theorem up_dn (c : Dev nD) (k : Fin 7) : up (dn c (k.val + 1)) k = c := by revert c k; decide
theorem dn_eq_up (c : Dev nD) (k : Fin 7) : dn c (k.val + 1) = up c (rev k) := by revert c k; decide
theorem dn_zero (c : Dev nD) : dn c 0 = c := by revert c; decide
theorem up_inj {c c' : Dev nD} {k : Fin 7} : up c k = up c' k → c = c' := by revert c c' k; decide

/-- Going `k + 1` places on, as a permutation of the devices. -/
def ring (k : Fin 7) : Dev nD ≃ Dev nD := ⟨fun c => up c k, fun c => up c (rev k), fun c => up_up_rev c k, fun c => up_rev_up c k⟩
/-- Counting trips from the other end, as a permutation. -/
def flip : Fin 7 ≃ Fin 7 := ⟨rev, rev, rev_rev, rev_rev⟩

/-! ## Trips -/

theorem trips1 : k0_t1_loop.trips = 7 := by decide
theorem trips2 : k0_t2_loop.trips = 7 := by decide
theorem trips3 : k0_t3_loop.trips = 7 := by decide
theorem trips4 : k0_t4_loop.trips = 7 := by decide

/-! ## Memrefs -/

abbrev xM : Memref sig .tc .hbm S4096x512 .f32 := Memref.whole main_arg0
abbrev wM : Memref sig .tc .hbm S4096x8192 .f32 := Memref.whole main_arg1
abbrev s2M : Memref sig .tc .smem S1 .f32 := Memref.whole cc0_stg0_0
abbrev s3M : Memref sig .tc .smem S1 .f32 := Memref.whole cc0_stg1_0
abbrev oM : Memref sig .tc .vmem S512x8192 .f32 := Memref.whole cc0_stg2_0
abbrev qM : Memref sig .tc .vmem S4096x512 .fp8e4m3 := Memref.whole cc0_scratch0
abbrev cM : Memref sig .tc .vmem S7x512x512 .fp8e4m3 := Memref.whole cc0_scratch1
abbrev vM : Memref sig .tc .vmem S2x512x8192 .f32 := Memref.whole cc0_scratch2
abbrev xsM : Memref sig .tc .vmem S4096x512 .f32 := Memref.whole cc0_scratch3

theorem inb_q (j : Dev nD) : ∀ a, (![512 * j.val, 0] : Fin 2 → ℕ) a + S512x512.size a ≤ S4096x512.size a := by
  have : j.val < 8 := j.isLt; intro a; fin_cases a
  · show 512 * j.val + 512 ≤ 4096; omega
  · show 0 + 512 ≤ 512; omega
theorem inb_w (j : Dev nD) : ∀ a, (![512 * j.val, 0] : Fin 2 → ℕ) a + S512x8192.size a ≤ S4096x8192.size a := by
  have : j.val < 8 := j.isLt; intro a; fin_cases a
  · show 512 * j.val + 512 ≤ 4096; omega
  · show 0 + 8192 ≤ 8192; omega
theorem inb_c (k : Fin 7) : ∀ a, (![k.val, 0, 0] : Fin 3 → ℕ) a + S1x512x512.size a ≤ S7x512x512.size a := by
  have := k.isLt; intro a; fin_cases a
  · show k.val + 1 ≤ 7; omega
  · show 0 + 512 ≤ 512; omega
  · show 0 + 512 ≤ 512; omega
theorem inb_v (s : Fin 2) : ∀ a, (![s.val, 0, 0] : Fin 3 → ℕ) a + S1x512x8192.size a ≤ S2x512x8192.size a := by
  have := s.isLt; intro a; fin_cases a
  · show s.val + 1 ≤ 2; omega
  · show 0 + 512 ≤ 512; omega
  · show 0 + 8192 ≤ 8192; omega

/-- Rows `512 j … 512 j + 511` of the cast activations. -/
abbrev qR (j : Dev nD) : Rect S4096x512 := Rect.unit (s := S4096x512) ![512 * j.val, 0] S512x512.size (inb_q j)
abbrev qB (j : Dev nD) : Memref sig .tc .vmem S512x512 .fp8e4m3 := qM.slice (qR j) (fun _ => rfl)
/-- Rows `512 j … 512 j + 511` of the weights. -/
abbrev wB (j : Dev nD) : Memref sig .tc .hbm S512x8192 .f32 :=
  wM.slice (Rect.unit (s := S4096x8192) ![512 * j.val, 0] S512x8192.size (inb_w j)) (fun _ => rfl)
/-- Landing slot `k`. -/
abbrev cR (k : Fin 7) : Rect S7x512x512 := Rect.unit (s := S7x512x512) ![k.val, 0, 0] S1x512x512.size (inb_c k)
abbrev cB (k : Fin 7) : Memref sig .tc .vmem S512x512 .fp8e4m3 :=
  (cM.slice (cR k) (fun _ => rfl)).squeeze S512x512 squeezes_S1x512x512_S512x512
/-- Weight slot `s` of the double buffer. -/
abbrev vR (s : Fin 2) : Rect S2x512x8192 := Rect.unit (s := S2x512x8192) ![s.val, 0, 0] S1x512x8192.size (inb_v s)
abbrev vB (s : Fin 2) : Memref sig .tc .vmem S512x8192 .f32 :=
  (vM.slice (vR s) (fun _ => rfl)).squeeze S512x8192 squeezes_S1x512x8192_S512x8192

/-! ## Cells -/

abbrev barS : Sem sig := (SemArray.scalar (sig.barrier 0 rfl) : Sems sig S_).sem

/-- The kernel's own scoped semaphores in order: send 0…6, receive 7…13, weights 14 and 15, activations 16. -/
abbrev osem : Fin 17 → SemLoc sig := fun i => .dma ⟨i.val + 3, by have := i.isLt; show i.val + 3 < 20; omega⟩
/-- The barrier semaphore and the own ones. -/
abbrev csem : Option (Fin 17) → SemLoc sig
  | none => .reg barS
  | some i => osem i
abbrev kcell (x : Dev nD × Option (Fin 17)) : GSem nD τ sig := ((x.1 : Thread nD τ), csem x.2)

abbrev sendI (k : Fin 7) : Option (Fin 17) := some ⟨k.val, by omega⟩
abbrev recvI (k : Fin 7) : Option (Fin 17) := some ⟨k.val + 7, by omega⟩
abbrev wI (s : Fin 2) : Option (Fin 17) := some ⟨s.val + 14, by omega⟩
abbrev xI : Option (Fin 17) := some ⟨16, by omega⟩

abbrev barCell (c : Dev nD) : GSem nD τ sig := kcell (c, none)
abbrev sendCell (c : Dev nD) (k : Fin 7) : GSem nD τ sig := kcell (c, sendI k)
abbrev recvCell (c : Dev nD) (k : Fin 7) : GSem nD τ sig := kcell (c, recvI k)
abbrev wCell (c : Dev nD) (s : Fin 2) : GSem nD τ sig := kcell (c, wI s)
abbrev xCell (c : Dev nD) : GSem nD τ sig := kcell (c, xI)

def NC : ℕ := (cB 0).view.dmaCredit
def NW : ℕ := (vB 0).view.dmaCredit
def NX : ℕ := xsM.view.dmaCredit
theorem NC_pos : 0 < NC := View.dmaCredit_pos _ (by decide)
theorem NW_pos : 0 < NW := View.dmaCredit_pos _ (by decide)
theorem NX_pos : 0 < NX := View.dmaCredit_pos _ (by decide)

theorem NC_cB (k : Fin 7) : (cB k).view.dmaCredit = NC := rfl
theorem NC_qB (j : Dev nD) : (qB j).view.dmaCredit = NC := rfl
theorem NX_xsM : xsM.view.dmaCredit = NX := rfl
theorem NW_vB (s : Fin 2) : (vB s).view.dmaCredit = NW := rfl
attribute [irreducible] NC NW NX

/-! ## Contents -/

variable (m : (ℓ : Loc nD τ sig) → Buf (Elt F) ℓ)

abbrev xIn (c : Dev nD) : (main_arg0 : Ref sig .tc).ty.Contents (Elt F) := m ((c : Thread nD τ).loc main_arg0)
abbrev wIn (c : Dev nD) : (main_arg1 : Ref sig .tc).ty.Contents (Elt F) := m ((c : Thread nD τ).loc main_arg1)

/-- The activations cast to 8-bit floats. -/
def xq (c : Dev nD) : (cc0_scratch0 : Ref sig .tc).ty.Contents (Elt F) := k0_pay4 (F := F) (xIn m c)
/-- Rows block `j` of device `c`'s cast activations. -/
def blk (c j : Dev nD) : Vec F S512x512 .fp8e4m3 := (qB j).view.read (Elt F) (xq m c)
/-- The weight rows copy `d` of device `c` brings: those of the device `d` places before. -/
def wblk (c : Dev nD) (d : ℕ) : Vec F S512x8192 .f32 := (wB (dn c d)).view.read (Elt F) (wIn m c)

/-- One product of an activation block by a weight block, from zero. -/
def mm (a : Vec F S512x512 .fp8e4m3) (w : Vec F S512x8192 .f32) : FVec F S512x8192 .f32 :=
  matmul dot_S512x512_S512x8192_S512x8192_1_0_0_1_n_n none a (truncf .fp8e4m3 w bitsLt_fp8e4m3_f32) (constant S512x8192 .f32 0x00000000#32)

/-- The accumulator after the own block and `k` received ones. -/
def acc (c : Dev nD) : ℕ → FVec F S512x8192 .f32
  | 0 => mm (blk m c c) (wblk m c 0)
  | k + 1 => addf (acc c k) (mm (blk m (dn c (k + 1)) c) (wblk m c (k + 1)))

theorem pay6_eq (a : Vec F S512x512 .fp8e4m3) (w : Vec F S1x512x8192 .f32) :
    k0_pay6 a w = mm a (shapeCast S512x8192 w shapeCasts_S1x512x8192_S512x8192) := rfl
theorem pay7_eq (r : FVec F S512x8192 .f32) (a : FVec F S512x512 .fp8e4m3) (w : Vec F S1x512x8192 .f32) :
    k0_pay7 r a w = addf r (mm a (shapeCast S512x8192 w shapeCasts_S1x512x8192_S512x8192)) := rfl
theorem pay2_eq (v : Vec F S512x8192 .f32) : k0_pay2 v = v := by
  unfold k0_pay2; exact funext fun j => congrArg v (Shape.reshapeEquiv_self _ j)
theorem cB_read (k : Fin 7) (f : (cc0_scratch1 : Ref sig .tc).ty.Contents (Elt F)) :
    (cB k).view.read (Elt F) f = k0_pay3 (F := F) (cM.view.readAt (Elt F) (cR k).toLoadRect f) := rfl
theorem vB_read (s : Fin 2) (f : (cc0_scratch2 : Ref sig .tc).ty.Contents (Elt F)) :
    (vB s).view.read (Elt F) f = shapeCast S512x8192 (vM.view.readAt (Elt F) (vR s).toLoadRect f) shapeCasts_S1x512x8192_S512x8192 := rfl
theorem qB_read (j : Dev nD) (f : (cc0_scratch0 : Ref sig .tc).ty.Contents (Elt F)) :
    (qB j).view.read (Elt F) f = qM.view.readAt (Elt F) (qR j).toLoadRect f := rfl

end Cert.A2A

end
-- ==== Proof.Sched.lean ====
/- The protocol on the kernel's semaphores: which rounds and duties each cell has, what every duty adds and what it
   hands over. -/
module

public import proofs.«01_k».proof.Proof.Base

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the kernel's own (duties numbered by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of memory -/

/-- Landing slot `k` of device `c`, whole, at `f`. -/
def cPts (c : Dev nD) (k : Fin 7) (f : Buf (Elt F) ((c : Thread nD τ).loc cc0_scratch1)) : sProp 𝕄 :=
  ((c : Thread nD τ).loc cc0_scratch1) ↦[(cB k).view.set]{fullShare} f
/-- Landing slot `k` of device `c` at some contents. -/
def cAny (c : Dev nD) (k : Fin 7) : sProp 𝕄 := iprop(∃ f, cPts c k f)
/-- Rows block `j` of device `c`'s cast activations, at their value. -/
def qPts (c j : Dev nD) : sProp 𝕄 :=
  ((c : Thread nD τ).loc cc0_scratch0) ↦[(qB j).view.set]{fullShare} xq m c
/-- Weight slot `s` of device `c` at `f`. -/
def vPts (c : Dev nD) (s : Fin 2) (f : Buf (Elt F) ((c : Thread nD τ).loc cc0_scratch2)) : sProp 𝕄 :=
  ((c : Thread nD τ).loc cc0_scratch2) ↦[(vB s).view.set]{fullShare} f
/-- Weight slot `s` of device `c` at some contents. -/
def vAny (c : Dev nD) (s : Fin 2) : sProp 𝕄 := iprop(∃ f, vPts c s f)

/-! ## What the duties hand over -/

/-- Device `up c k` tells `c` that its landing slot `k` is free, and lends it. -/
def barPay (c : Dev nD) (k : Fin 7) : sProp 𝕄 := cAny (up c k) k
/-- The rows sent at trip `k` come back to the sender. -/
def sendPay (c : Dev nD) (k : Fin 7) : sProp 𝕄 := qPts m c (up c k)
/-- Landing slot `k` holds the rows block `c` of the device `k + 1` places before. -/
def recvPay (c : Dev nD) (k : Fin 7) : sProp 𝕄 :=
  iprop(∃ f, ⌜(cB k).view.read (Elt F) f = blk m (dn c (k.val + 1)) c⌝ ∗ cPts c k f)
/-- Weight slot `s` holds the rows of copy `d`. -/
def wPay (c : Dev nD) (s : Fin 2) (d : ℕ) : sProp 𝕄 :=
  iprop(∃ f, ⌜(vB s).view.read (Elt F) f = wblk m c d⌝ ∗ vPts c s f)
/-- The activations have arrived in VMEM. -/
def xPay (c : Dev nD) : sProp 𝕄 := ((c : Thread nD τ).loc cc0_scratch3) ↦{fullShare} (xIn m c : Buf (Elt F) ((c : Thread nD τ).loc cc0_scratch3))

/-- The payload of a DMA semaphore by its number. -/
def dmaPay (c : Dev nD) (n r : ℕ) : sProp 𝕄 :=
  if h3 : n < 3 then iprop(emp)
  else if h : n < 10 then sendPay m c ⟨n - 3, by omega⟩
  else if h' : n < 17 then recvPay m c ⟨n - 10, by omega⟩
  else if h'' : n < 19 then wPay m c ⟨n - 17, by omega⟩ (2 * r + (n - 17))
  else xPay m c

/-- The payload of a semaphore's duty. -/
def locPay (c : Dev nD) (r : ℕ) (d : Fin 7) : SemLoc sig → sProp 𝕄
  | .reg _ => barPay c d
  | .dma q => dmaPay m c q.val r
theorem locPay_reg (c : Dev nD) (r : ℕ) (d : Fin 7) (s : Sem sig) : locPay (F := F) m c r d (.reg s) = barPay c d := rfl
theorem locPay_dma (c : Dev nD) (r : ℕ) (d : Fin 7) (q : DmaSem sig) : locPay (F := F) m c r d (.dma q) = dmaPay m c q.val r := rfl

instance cPts_storable (c : Dev nD) (k) (f) : BI.Storable (upEmb : UEmb _ 𝕄) (cPts (F := F) c k f) := by unfold cPts; infer_instance
instance qPts_storable (c j : Dev nD) : BI.Storable (upEmb : UEmb _ 𝕄) (qPts (F := F) m c j) := by unfold qPts; infer_instance
instance vPts_storable (c : Dev nD) (s) (f) : BI.Storable (upEmb : UEmb _ 𝕄) (vPts (F := F) c s f) := by unfold vPts; infer_instance
instance barPay_storable (c : Dev nD) (k) : BI.Storable (upEmb : UEmb _ 𝕄) (barPay (F := F) c k) := by unfold barPay cAny; infer_instance
instance dmaPay_storable (c : Dev nD) (n r) : BI.Storable (upEmb : UEmb _ 𝕄) (dmaPay (F := F) m c n r) := by
  unfold dmaPay sendPay recvPay wPay xPay; (repeat' split) <;> infer_instance

/-! ## The schedule -/

/-- How many rounds a semaphore runs through: four for each weight slot, one for every other of the kernel's own. -/
def nrounds : SemLoc sig → ℕ
  | .reg _ => 1
  | .dma q => if q.val < 3 then 0 else if q.val < 17 then 1 else if q.val < 19 then 4 else 1
/-- The duties of a semaphore's round: seven signals on the barrier, one transfer elsewhere. -/
def sduties : SemLoc sig → Finset (Fin 7)
  | .reg _ => Finset.univ
  | .dma _ => {0}
def samount : SemLoc sig → ℕ
  | .reg _ => 1
  | .dma q => if q.val < 17 then NC else if q.val < 19 then NW else NX

def Rd : Rounds.Schedule (GSem nD τ sig) (Fin 7) 𝕄 where
  duties g r := if g.1.2 = .tc ∧ r < nrounds g.2 then sduties g.2 else ∅
  unitless _ := False
  amount g _ _ := samount g.2
  payload g r d := locPay m g.1.1 r d g.2
  amount_pos g _ _ _ := by
    show 0 < samount g.2
    unfold samount
    split
    · exact Nat.one_pos
    · (repeat' split)
      · exact NC_pos
      · exact NW_pos
      · exact NX_pos

instance Rd_payload_storable (g : GSem nD τ sig) (r : ℕ) (d : Fin 7) :
    BI.Storable (upEmb : UEmb _ 𝕄) ((Rd (F := F) m).payload g r d) := by
  show BI.Storable upEmb (locPay m g.1.1 r d g.2)
  cases g.2 with
  | reg s => rw [locPay_reg]; infer_instance
  | dma q => rw [locPay_dma]; infer_instance

section Facts
variable (c : Dev nD) (k : Fin 7) (s : Fin 2)

theorem duties_bar : (Rd (F := F) m).duties (barCell c) 0 = Finset.univ := by dsimp only [Rd]; exact if_pos ⟨rfl, Nat.one_pos⟩
theorem duties_own (i : Fin 17) (r : ℕ) (h : r < nrounds (osem i)) : (Rd (F := F) m).duties (kcell (c, some i)) r = {0} := by dsimp only [Rd]; exact if_pos ⟨rfl, h⟩
theorem duties_none (g : GSem nD τ sig) (R : ℕ) (h : nrounds g.2 ≤ R) : ∀ r, R ≤ r → (Rd (F := F) m).duties g r = ∅ :=
  fun r hr => by dsimp only [Rd]; exact if_neg fun h' => absurd h'.2 (by omega)

theorem nr_send : nrounds (csem (sendI k)) = 1 := by revert k; decide
theorem nr_recv : nrounds (csem (recvI k)) = 1 := by revert k; decide
theorem nr_w : nrounds (csem (wI s)) = 4 := by revert s; decide
theorem nr_x : nrounds (csem xI) = 1 := by decide

theorem duties_send : (Rd (F := F) m).duties (sendCell c k) 0 = {0} := duties_own m c _ 0 (by rw [show osem _ = csem (sendI k) from rfl, nr_send]; exact Nat.one_pos)
theorem duties_recv : (Rd (F := F) m).duties (recvCell c k) 0 = {0} := duties_own m c _ 0 (by rw [show osem _ = csem (recvI k) from rfl, nr_recv]; exact Nat.one_pos)
theorem duties_w (r : ℕ) (h : r < 4) : (Rd (F := F) m).duties (wCell c s) r = {0} := duties_own m c _ r (by rw [show osem _ = csem (wI s) from rfl, nr_w]; exact h)
theorem duties_x : (Rd (F := F) m).duties (xCell c) 0 = {0} := duties_own m c _ 0 (by decide)

theorem amount_bar (d : Fin 7) : (Rd (F := F) m).amount (barCell c) 0 d = 1 := rfl
theorem amount_send (r d) : (Rd (F := F) m).amount (sendCell c k) r d = NC := by
  have := k.isLt
  show (if k.val + 3 < 17 then NC else if k.val + 3 < 19 then NW else NX) = NC
  rw [if_pos (by omega)]
theorem amount_recv (r d) : (Rd (F := F) m).amount (recvCell c k) r d = NC := by
  have := k.isLt
  show (if k.val + 7 + 3 < 17 then NC else if k.val + 7 + 3 < 19 then NW else NX) = NC
  rw [if_pos (by omega)]
theorem amount_w (r d) : (Rd (F := F) m).amount (wCell c s) r d = NW := by
  have := s.isLt
  show (if s.val + 14 + 3 < 17 then NC else if s.val + 14 + 3 < 19 then NW else NX) = NW
  rw [if_neg (by omega), if_pos (by omega)]
theorem amount_x (r d) : (Rd (F := F) m).amount (xCell c) r d = NX := by
  show (if 16 + 3 < 17 then NC else if 16 + 3 < 19 then NW else NX) = NX
  rw [if_neg (by omega), if_neg (by omega)]

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = NC := by
  unfold Schedule.expect Schedule.amountOf; rw [duties_send, Finset.sum_singleton, amount_send]
theorem expect_recv : (Rd (F := F) m).expect (recvCell c k) 0 = NC := by
  unfold Schedule.expect Schedule.amountOf; rw [duties_recv, Finset.sum_singleton, amount_recv]
theorem expect_w (r : ℕ) (h : r < 4) : (Rd (F := F) m).expect (wCell c s) r = NW := by
  unfold Schedule.expect Schedule.amountOf; rw [duties_w m c s r h, Finset.sum_singleton, amount_w]
/-- One round of a semaphore of the kernel's own expects one transfer. -/
theorem expect_own (i : Fin 17) (r : ℕ) (h : r < nrounds (osem i)) :
    (Rd (F := F) m).expect (kcell (c, some i)) r = samount (osem i) := by
  unfold Schedule.expect Schedule.amountOf; rw [duties_own m c i r h, Finset.sum_singleton]; rfl
theorem samount_last (i : Fin 17) (h : i.val = 16) : samount (osem i) = NX := by
  show (if i.val + 3 < 17 then NC else if i.val + 3 < 19 then NW else NX) = NX
  rw [if_neg (by omega), if_neg (by omega)]
theorem expect_x : (Rd (F := F) m).expect (xCell c) 0 = NX :=
  (expect_own m c _ 0 (by decide)).trans (samount_last _ rfl)

theorem payload_bar (d : Fin 7) : (Rd (F := F) m).payload (barCell c) 0 d = barPay c d := by
  show locPay m c 0 d (.reg barS) = _
  rw [locPay_reg]
theorem payload_send (r d) : (Rd (F := F) m).payload (sendCell c k) r d = sendPay m c k := by
  have := k.isLt
  show locPay m c r d (.dma ⟨k.val + 3, by show _ < 20; omega⟩) = _
  rw [locPay_dma]
  show dmaPay m c (k.val + 3) r = _
  unfold dmaPay
  rw [dif_neg (by omega), dif_pos (by omega)]; rfl
theorem payload_recv (r d) : (Rd (F := F) m).payload (recvCell c k) r d = recvPay m c k := by
  have := k.isLt
  show locPay m c r d (.dma ⟨k.val + 7 + 3, by show _ < 20; omega⟩) = _
  rw [locPay_dma]
  show dmaPay m c (k.val + 7 + 3) r = _
  unfold dmaPay
  rw [dif_neg (by omega), dif_neg (by omega), dif_pos (by omega)]; rfl
theorem payload_w (r d) : (Rd (F := F) m).payload (wCell c s) r d = wPay m c s (2 * r + s.val) := by
  have := s.isLt
  show locPay m c r d (.dma ⟨s.val + 14 + 3, by show _ < 20; omega⟩) = _
  rw [locPay_dma]
  show dmaPay m c (s.val + 14 + 3) r = _
  unfold dmaPay
  rw [dif_neg (by omega), dif_neg (by omega), dif_neg (by omega), dif_pos (by omega)]; rfl
theorem payload_last (i : Fin 17) (h : i.val = 16) (r d) : (Rd (F := F) m).payload (kcell (c, some i)) r d = xPay m c := by
  show locPay m c r d (.dma ⟨i.val + 3, by show _ < 20; omega⟩) = _
  rw [locPay_dma]
  show dmaPay m c (i.val + 3) r = _
  unfold dmaPay
  rw [dif_neg (by omega), dif_neg (by omega), dif_neg (by omega), dif_neg (by omega)]
theorem payload_x (r d) : (Rd (F := F) m).payload (xCell c) r d = xPay m c := payload_last m c _ rfl r d

theorem rest_bar : bigSep ((Rd (F := F) m).duties (barCell c) 0 \ ∅) (fun d => (Rd (F := F) m).payload (barCell c) 0 d)
    = bigSep Finset.univ fun k => barPay c k := by
  rw [Finset.sdiff_empty, duties_bar]; rfl
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]
theorem rest_w (r : ℕ) (h : r < 4) : bigSep ((Rd (F := F) m).duties (wCell c s) r \ ∅) (fun d => (Rd (F := F) m).payload (wCell c s) r d)
    = wPay m c s (2 * r + s.val) := by
  rw [Finset.sdiff_empty, duties_w m c s r h, bigSep_singleton, payload_w]
theorem rest_x : bigSep ((Rd (F := F) m).duties (xCell c) 0 \ ∅) (fun d => (Rd (F := F) m).payload (xCell c) 0 d) = xPay m c := by
  rw [Finset.sdiff_empty, duties_x, bigSep_singleton, payload_x]

end Facts

/-! ## Runs over the trips still to come and the trips done -/

/-- The indices from `i` on. -/
def fr (n i : ℕ) : Finset (Fin n) := Finset.univ.filter fun k => i ≤ k.val
/-- The indices below `i`. -/
def bl (n i : ℕ) : Finset (Fin n) := Finset.univ.filter fun k => k.val < i

theorem fr_zero (n : ℕ) : fr n 0 = Finset.univ := by ext k; simp [fr]
theorem fr_top (n : ℕ) : fr n n = ∅ := by ext k; simp [fr]
theorem bl_zero (n : ℕ) : bl n 0 = ∅ := by ext k; simp [bl]
theorem bl_top (n : ℕ) : bl n n = Finset.univ := by ext k; simp [bl]
theorem fr_notMem {n i : ℕ} (h : i < n) : (⟨i, h⟩ : Fin n) ∉ fr n (i + 1) := by simp [fr]
theorem bl_notMem {n i : ℕ} (h : i < n) : (⟨i, h⟩ : Fin n) ∉ bl n i := by simp [bl]
theorem fr_insert {n i : ℕ} (h : i < n) : fr n i = insert ⟨i, h⟩ (fr n (i + 1)) := by
  ext k; simp only [fr, Finset.mem_filter, Finset.mem_univ, true_and, Finset.mem_insert, Fin.ext_iff]; omega
theorem bl_insert {n i : ℕ} (h : i < n) : bl n (i + 1) = insert ⟨i, h⟩ (bl n i) := by
  ext k; simp only [bl, Finset.mem_filter, Finset.mem_univ, true_and, Finset.mem_insert, Fin.ext_iff]; omega

/-- The trip at hand apart from those to come. -/
theorem fr_split {M : Type} [URA M] {n i : ℕ} (h : i < n) (Φ : Fin n → sProp M) :
    bigSep (fr n i) Φ = iprop(Φ ⟨i, h⟩ ∗ bigSep (fr n (i + 1)) Φ) := by
  rw [fr_insert h, bigSep_insert (fr_notMem h)]; rfl
/-- The trip just done joined to those done. -/
theorem bl_split {M : Type} [URA M] {n i : ℕ} (h : i < n) (Φ : Fin n → sProp M) :
    bigSep (bl n (i + 1)) Φ = iprop(Φ ⟨i, h⟩ ∗ bigSep (bl n i) Φ) := by
  rw [bl_insert h, bigSep_insert (bl_notMem h)]; rfl
/-- The sum over the trips to come, the one at hand last. -/
theorem fr_sum {A : Type} [AddCommMonoid A] {n i : ℕ} (h : i < n) (f : Fin n → A) :
    ∑ k ∈ fr n i, f k = (∑ k ∈ fr n (i + 1), f k) + f ⟨i, h⟩ := by
  rw [fr_insert h, Finset.sum_insert (fr_notMem h), add_comm]

/-! ## What a device owes at launch, and the levels -/

/-- Receive credits owed for the trips from `i` on. -/
def Orecv (c : Dev nD) (i : ℕ) : CellTallies nD τ sig Unit := ∑ k ∈ fr 7 i, tallyAt (recvCell (up c k) k) () NC
/-- Barrier signals owed for the trips from `i` on. -/
def Obar (c : Dev nD) (i : ℕ) : CellTallies nD τ sig Unit := ∑ k ∈ fr 7 i, tallyAt (barCell (up c k)) () 1
def O₀ (c : Dev nD) : CellTallies nD τ sig Unit := Orecv c 0 + Obar c 0

def L (g : GSem nD τ sig) : Finset Unit := if g.1.2 = .tc then {()} else ∅
/-- The barrier at level 1, receive cells at 2, all else at 0. -/
def lv (g : GSem nD τ sig) (_ : Unit) : ℕ := match g.2 with
  | .reg _ => 1
  | .dma q => if 10 ≤ q.val ∧ q.val < 17 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 7) : lv (recvCell c k) () = 2 := by
  have := k.isLt;
  show (if 10 ≤ k.val + 7 + 3 ∧ k.val + 7 + 3 < 17 then 2 else 0) = 2
  rw [if_pos (by omega)]

theorem Orecv_pos {c : Dev nD} {i : ℕ} {g : GSem nD τ sig} {u : Unit} (h : 0 < Orecv c i g u) : ∃ k, g = recvCell (up c k) k := by
  unfold Orecv at h
  rw [Finset.sum_apply, Finsupp.finset_sum_apply] at h
  obtain ⟨k, -, hk⟩ := Finset.exists_ne_zero_of_sum_ne_zero (Nat.pos_iff_ne_zero.mp h)
  rw [tallyAt_apply] at hk
  by_contra hn
  exact hk (if_neg fun h' => hn ⟨k, h'.1⟩)
theorem Obar_pos {c : Dev nD} {i : ℕ} {g : GSem nD τ sig} {u : Unit} (h : 0 < Obar c i g u) : ∃ k, g = barCell (up c k) := by
  unfold Obar at h
  rw [Finset.sum_apply, Finsupp.finset_sum_apply] at h
  obtain ⟨k, -, hk⟩ := Finset.exists_ne_zero_of_sum_ne_zero (Nat.pos_iff_ne_zero.mp h)
  rw [tallyAt_apply] at hk
  by_contra hn
  exact hk (if_neg fun h' => hn ⟨k, h'.1⟩)
theorem O₀_pos {c : Dev nD} {g : GSem nD τ sig} {u : Unit} (h : 0 < O₀ c g u) :
    (∃ k, g = recvCell (up c k) k) ∨ ∃ k, g = barCell (up c k) := by
  unfold O₀ at h
  rw [Pi.add_apply, Finsupp.add_apply] at h
  rcases Nat.eq_zero_or_pos (Orecv c 0 g u) with h0 | h0
  · right; rw [h0, Nat.zero_add] at h; exact Obar_pos h
  · left; exact Orecv_pos h0

/-- A wait at level 0 is allowed while owing everything, or nothing. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact hq.le)
      (fun g u hg => by
        rcases O₀_pos hg with ⟨k, rfl⟩ | ⟨k, rfl⟩
        · rw [lv_recv]; decide
        · exact Nat.one_pos)
  · rw [MayWait_zero]; iintro -; iempintro

/-- At the barrier wait only receive credits are owed, and they are above it. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨k, rfl⟩ := Orecv_pos hg; exact Finset.mem_singleton_self _)
    (fun p hp => by rw [Finset.mem_singleton.mp hp]; exact le_refl _)
    (fun g u hg => by obtain ⟨k, rfl⟩ := Orecv_pos hg; rw [lv_recv]; decide)

end Cert.A2A

end
-- ==== Proof.Ops.lean ====
/- One rule per kind of step the body takes, at the protocol's cells and the proof's pieces of memory. -/
module

public import proofs.«01_k».proof.Proof.Sched

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `c` owes, whatever it has waited for. -/
def ow (c : Dev nD) (O : CellTallies nD τ sig Unit) : sProp 𝕄 := iprop(∃ W, owes (c : Thread nD τ) O W)

/-- Every cell's invariant, and that every cell has reached round 0. -/
def records (K : Dev nD × Option (Fin 17) → ℕ) : sProp 𝕄 :=
  iprop((bigSep Finset.univ fun p : Dev nD × Option (Fin 17) => cellInv ER (Rd m) (K p) (kcell p))
    ∗ bigSep Finset.univ fun p : Dev nD × Option (Fin 17) => reached ER (kcell p) 0)

instance records_persistent (K : Dev nD × Option (Fin 17) → ℕ) : BI.Persistent (records (F := F) m K) := by unfold records; infer_instance

variable (K : Dev nD × Option (Fin 17) → ℕ)

theorem inv_get (p : Dev nD × Option (Fin 17)) : records (F := F) m K ⊢ cellInv ER (Rd m) (K p) (kcell p) := by
  unfold records; iintro ⟨H, -⟩
  iapply (show (bigSep Finset.univ fun p : Dev nD × Option (Fin 17) => (cellInv ER (Rd m) (K p) (kcell p) : sProp 𝕄)) ⊢ cellInv ER (Rd m) (K p) (kcell p) from
    bigSep_elim (Finset.mem_univ p)) $$ H
theorem reach_get (p : Dev nD × Option (Fin 17)) : records (F := F) m K ⊢ reached ER (kcell p) 0 := by
  unfold records; iintro ⟨-, H⟩
  iapply (show (bigSep Finset.univ fun p : Dev nD × Option (Fin 17) => (reached ER (kcell p) 0 : sProp 𝕄)) ⊢ reached ER (kcell p) 0 from
    bigSep_elim (Finset.mem_univ p)) $$ H

/-! ## Where the kernel's slices lie -/

theorem wB_of (j : Dev nD) {off : Fin 2 → ℕ} (h : off = ![512 * j.val, 0]) (inb) :
    wM.slice (Rect.unit (s := S4096x8192) off S512x8192.size inb) (fun _ => rfl) = wB j := by subst h; rfl
theorem qB_of (j : Dev nD) {off : Fin 2 → ℕ} (h : off = ![512 * j.val, 0]) (inb) :
    qM.slice (Rect.unit (s := S4096x512) off S512x512.size inb) (fun _ => rfl) = qB j := by subst h; rfl
theorem cB_of (k : Fin 7) {off : Fin 3 → ℕ} (h : off = ![k.val, 0, 0]) (inb) :
    (cM.slice (Rect.unit (s := S7x512x512) off S1x512x512.size inb) (fun _ => rfl)).squeeze S512x512 squeezes_S1x512x512_S512x512 = cB k := by
  subst h; rfl
theorem vB_of (s : Fin 2) {off : Fin 3 → ℕ} (h : off = ![s.val, 0, 0]) (inb) :
    (vM.slice (Rect.unit (s := S2x512x8192) off S1x512x8192.size inb) (fun _ => rfl)).squeeze S512x8192 squeezes_S1x512x8192_S512x8192 = vB s := by
  subst h; rfl
theorem sendS_of (k : Fin 7) {off : Fin 1 → ℕ} (h : off = ![k.val]) (inb) :
    ((cc0_scratch4.slice (Rect.unit (s := S7) off S1.size inb)).squeeze S_ squeezes_S1_S_).sem = ⟨k.val + 3, by show _ < 20; omega⟩ := by
  subst h; revert k; decide
theorem recvS_of (k : Fin 7) {off : Fin 1 → ℕ} (h : off = ![k.val]) (inb) :
    ((cc0_scratch5.slice (Rect.unit (s := S7) off S1.size inb)).squeeze S_ squeezes_S1_S_).sem = ⟨k.val + 7 + 3, by show _ < 20; omega⟩ := by
  subst h; revert k; decide
theorem wS_of (s : Fin 2) {off : Fin 1 → ℕ} (h : off = ![s.val]) (inb) :
    ((cc0_scratch6.slice (Rect.unit (s := S2) off S1.size inb)).squeeze S_ squeezes_S1_S_).sem = ⟨s.val + 14 + 3, by show _ < 20; omega⟩ := by
  subst h; revert s; decide
theorem xS_eq : (cc0_scratch7).sem = ⟨16 + 3, by show _ < 20; omega⟩ := by decide

/-! ## One rule per kind of step -/

section Steps

/-- A wait for one whole round on the semaphore numbered `x`. -/
theorem wp_wait_cell {α : Type} {Q : α → sProp 𝕄} {k : PUnit → Prog (TpuEff nD τ sig (Elt F) Λ₀ .tc) α}
    (c : Dev nD) (x : Option (Fin 17)) (q : DmaSem sig) (hq : SemLoc.dma q = csem x)
    {sp sp' : Space} {sh sh' : Shape} {e e' : EltTy} {src : Memref sig .tc sp' sh' e'} {dst : Memref sig .tc sp sh e}
    {hs : src.view.WordExact} {hd : dst.view.WordExact} (N : ℕ) (hN : dst.view.dmaCredit = N) (R : ℕ)
    (hexp : (Rd (F := F) m).expect (kcell (c, x)) R = N) (O : CellTallies nD τ sig Unit) :
    iprop(cellInv ER (Rd m) (K (c, x)) (kcell (c, x)) ∗ cred (tallyAt (kcell (c, x)) () N) ∗ ow c O
        ∗ MayWait (c : Thread nD τ) (csem x) () O ∗ atPos ER (kcell (c, x)) R ∅ 0)
      ⊢ iprop(((ow c O ∗ atPos ER (kcell (c, x)) (R + 1) ∅ 0 ∗ reached ER (kcell (c, x)) (R + 1)
              ∗ bigSep ((Rd m).duties (kcell (c, x)) R \ ∅) (fun d => (Rd m).payload (kcell (c, x)) R d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hN
  unfold ow
  iintro ⟨HI, HC, ⟨%W, HO⟩, HM, HA⟩ Hk
  have h := Rounds.wp_wait_rest_token 𝒱₀ ER (Rd (F := F) m) (c : Thread nD τ) none (κ := K (c, x)) (sm := csem x) (defs := defs₀ (F := F)) (Γ := .empty) (k := k) (Q := Q)
    (w := .waitDma2 q src dst hs hd) (k' := dst.view.dmaCredit)
    (fun P => by rw [wpE_waitDma2_eq, hq]) (Set.mem_univ _) () (O := O) (W := W) (R := R) (m := 0) (T := ∅)
    (by rw [Nat.zero_add]; exact hexp.symm)
  iapply h $$ [HI HC HO HM HA]
  · isplitl [HI]; · iexact HI
    isplitl [HC]; · iexact HC
    isplitl [HO]; · iexact HO
    isplitl [HM]; · iexact HM
    iexact HA
  iintro ⟨HO, HR⟩
  iapply Hk
  isplitl [HO]; · iexists _; iexact HO
  iexact HR

/-- Starting copy `d` of the weights into its slot. -/
theorem wp_copy_w {α : Type} {Q : α → sProp 𝕄} {k : PUnit → Prog (TpuEff nD τ sig (Elt F) Λ₀ .tc) α}
    (c : Dev nD) (d : ℕ) (hd8 : d < 8) (s : Fin 2) (hs2 : s.val = d % 2) (q : DmaSem sig) (hq : q = ⟨s.val + 14 + 3, by show _ < 20; omega⟩)
    {src : Memref sig .tc .hbm S512x8192 .f32} {dst : Memref sig .tc .vmem S512x8192 .f32} (hsrc : src = wB (dn c d)) (hdst : dst = vB s)
    {he : src.view.WordExact} {he' : dst.view.WordExact} {hsem : DmaTarget.Typed (nD := nD) .hbm (.dma q) (DmaTarget.here (p := (Proc.tc : Proc τ)) dst)}
    (p : PosShare TreeShare) :
    iprop(cellInv ER (Rd m) (K (c, wI s)) (wCell c s) ∗ (((c : Thread nD τ).loc main_arg1) ↦{p} wIn m c)
        ∗ vAny c s ∗ dutyTok ER (wCell c s) (d / 2) 0 ∗ reached ER (wCell c s) (d / 2))
      ⊢ iprop(((cred (tallyAt (wCell c s) () NW) ∗ (((c : Thread nD τ).loc main_arg1) ↦{p.right} wIn m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) he he' hsem) k) Q) := by
  subst hq hsrc hdst
  unfold vAny
  iintro ⟨HI, HW, ⟨%f, HV⟩, HT, HR⟩ Hk
  ihave HW := (pointsTo_share (PosShare.mem_left_op_right p)).1 $$ HW
  icases HW with ⟨HL, HW⟩
  ihave HL := (pointsTo_split_subset (Finset.subset_univ (wB (dn c d)).view.set)).1 $$ HL
  icases HL with ⟨HL, -⟩
  have hr : d / 2 < 4 := by omega
  have h := Rounds.wp_copy_pointsTo 𝒱₀ ER (Rd (F := F) m) (c : Thread nD τ) none (κ := K (c, wI s)) (sem := csem (wI s)) (defs := defs₀ (F := F)) (Γ := .empty) (k := k) (Q := Q)
    (src := wB (dn c d)) (dst := vB s) (hsrc := he) (hdst := he') (hsem := hsem) (fs := wIn m c) (fd := f) (q := p.left) (r := d / 2) (d := 0) (Es := Set.univ)
    (by rw [show ((c : Thread nD τ), csem (wI s)) = wCell c s from rfl, duties_w m c s _ hr]; exact Finset.mem_singleton_self _) () NW (NW_vB s) (amount_w m c s _ _)
    (by
      rw [show ((c : Thread nD τ), csem (wI s)) = wCell c s from rfl, payload_w]
      unfold wPay vPts
      iintro ⟨H, -⟩
      iexists _
      isplitr; swap; · iexact H
      ipureintro
      rw [View.read_write_univ, show 2 * (d / 2) + s.val = d by omega]; rfl)
  iapply h $$ [HI HL HV HT HR]
  · isplitl [HI]; · iexact HI
    isplitl [HL]; · iexact HL
    isplitl [HV]; · unfold vPts; iexact HV
    isplitl [HT]; · iexact HT
    iexact HR
  iintro HC
  iapply Hk
  isplitl [HC]; · iexact HC
  iexact HW

/-- Starting the copy of the activations into VMEM. -/
theorem wp_copy_x {α : Type} {Q : α → sProp 𝕄} {k : PUnit → Prog (TpuEff nD τ sig (Elt F) Λ₀ .tc) α}
    (c : Dev nD) (q : DmaSem sig) (hq : q = ⟨16 + 3, by show _ < 20; omega⟩)
    {he : xM.view.WordExact} {he' : xsM.view.WordExact} {hsem : DmaTarget.Typed (nD := nD) .hbm (.dma q) (DmaTarget.here (p := (Proc.tc : Proc τ)) xsM)}
    (p : PosShare TreeShare) (f : Buf (Elt F) ((c : Thread nD τ).loc cc0_scratch3)) :
    iprop(cellInv ER (Rd m) (K (c, xI)) (xCell c) ∗ (((c : Thread nD τ).loc main_arg0) ↦{p} xIn m c)
        ∗ (((c : Thread nD τ).loc cc0_scratch3) ↦{fullShare} f) ∗ dutyTok ER (xCell c) 0 0 ∗ reached ER (xCell c) 0)
      ⊢ iprop((cred (tallyAt (xCell c) () NX)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here xsM) (.dma q) he he' hsem) k) Q) := by
  subst hq
  have h := Rounds.wp_copy_pointsTo 𝒱₀ ER (Rd (F := F) m) (c : Thread nD τ) none (κ := K (c, xI)) (sem := csem xI) (defs := defs₀ (F := F)) (Γ := .empty) (k := k) (Q := Q)
    (src := xM) (dst := xsM) (hsrc := he) (hdst := he') (hsem := hsem) (fs := xIn m c) (fd := f) (q := p) (r := 0) (d := 0) (Es := Set.univ)
    (by rw [show ((c : Thread nD τ), csem xI) = xCell c from rfl, duties_x]; exact Finset.mem_singleton_self _) () NX NX_xsM (amount_x m c 0 0)
    (by
      rw [show ((c : Thread nD τ), csem xI) = xCell c from rfl, payload_x]
      unfold xPay
      rw [View.write_whole_univ, View.read_whole, View.set_whole]
      iintro ⟨H, -⟩
      iexact H)
  rw [View.set_whole, View.set_whole] at h
  exact h
end Steps

/-- Signalling the barrier of the device `j + 1` places on, lending it the landing slot it will write. -/
theorem wp_signal_bar {α : Type} {Q : α → sProp 𝕄} {k : PUnit → Prog (TpuEff nD τ sig (Elt F) Λ₀ .tc) α}
    (c n : Dev nD) (j : Fin 7) (hn : n = up c j) (w : ℕ) (hw : w = 1) {O₀ : CellTallies nD τ sig Unit} (O : CellTallies nD τ sig Unit)
    (hO : O₀ = O + tallyAt (barCell (up c j)) () 1) :
    iprop(records m K ∗ ow c O₀ ∗ dutyTok ER (barCell (up c j)) 0 (rev j) ∗ cAny c (rev j))
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS w) k) Q) := by
  subst hn hw
  unfold ow
  iintro ⟨#HR, ⟨%W, HO⟩, HT, HC⟩ Hk
  have h := Rounds.wp_signal 𝒱₀ ER (Rd (F := F) m) (c : Thread nD τ) none (dst := (up c j : Thread nD τ)) (sem := barS) (κ := K (up c j, none))
    (r := 0) (d := rev j) (k' := 1) (defs := defs₀ (F := F)) (Γ := .empty) (k := k) (Q := Q) (Es := Set.univ)
    (by rw [show ((up c j : Thread nD τ), SemLoc.reg barS) = barCell (up c j) from rfl, duties_bar]; exact Finset.mem_univ _)
    (amount_bar m (up c j) (rev j)) () (O₀ := O₀) O hO (W := W)
  iapply h $$ [HO HT HC]
  · isplitr; · iapply (inv_get m K (up c j, none)) $$ HR
    isplitl [HO]; · iexact HO
    isplitl [HT]; · iexact HT
    isplitl [HC]
    · rw [show ((up c j : Thread nD τ), SemLoc.reg barS) = barCell (up c j) from rfl, payload_bar]
      unfold barPay; rw [up_up_rev]; iexact HC
    iapply (reach_get m K (up c j, none)) $$ HR
  iintro HO
  iapply Hk
  iexists W; iexact HO

/-- The barrier wait: every other device's landing slot for `c` comes with it. -/
theorem wp_wait_bar {α : Type} {Q : α → sProp 𝕄} {k : PUnit → Prog (TpuEff nD τ sig (Elt F) Λ₀ .tc) α}
    (c : Dev nD) (w : ℕ) (hw : w = 7) :
    iprop(records m K ∗ levAts L lv ∗ cred (tallyAt (barCell c) () 7) ∗ ow c (Orecv c 0) ∗ atPos ER (barCell c) 0 ∅ 0)
      ⊢ iprop(((ow c (Orecv c 0) ∗ atPos ER (barCell c) 1 ∅ 0 ∗ bigSep Finset.univ fun k : Fin 7 => cAny (up c k) k)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  unfold ow
  iintro ⟨#HR, #Hlev, HC, ⟨%W, HO⟩, HA⟩ Hk
  have h := Rounds.wp_wait_rest_token 𝒱₀ ER (Rd (F := F) m) (c : Thread nD τ) none (κ := K (c, none)) (sm := .reg barS)
    (w := .semWait barS 7) (k' := 7) (defs := defs₀ (F := F)) (Γ := .empty) (k := k) (Q := Q)
    (wpE_semWait_eq 𝒱₀ (c : Thread nD τ) none Set.univ) (Set.mem_univ _) () (O := Orecv c 0) (W := W) (R := 0) (m := 0) (T := ∅)
    (by rw [Nat.zero_add]; exact (expect_bar m c).symm)
  iapply h $$ [HC HO HA]
  · isplitr; · iapply (inv_get m K (c, none)) $$ HR
    isplitl [HC]; · iexact HC
    isplitl [HO]; · iexact HO
    isplitr; · iapply (mayWait_bar c) $$ Hlev
    iexact HA
  iintro ⟨HO, HA, -, HP⟩
  iapply Hk
  isplitl [HO]; · iexists _; iexact HO
  isplitl [HA]; · iexact HA
  ihave HP := (Entails.of_eq (rest_bar m c)) $$ HP
  unfold barPay
  iexact HP

/-- Sending the rows of the device `j + 1` places on into its landing slot `j`. -/
theorem wp_send_rows {α : Type} {Q : α → sProp 𝕄} {k : PUnit → Prog (TpuEff nD τ sig (Elt F) Λ₀ .tc) α}
    (c n : Dev nD) (j : Fin 7) (hn : n = up c j) (qs qr : DmaSem sig) (hqs : qs = ⟨j.val + 3, by show _ < 20; omega⟩)
    (hqr : qr = ⟨j.val + 7 + 3, by show _ < 20; omega⟩)
    {src dst : Memref sig .tc .vmem S512x512 .fp8e4m3} (hsrc : src = qB (up c j)) (hdst : dst = cB j)
    {hsc : (show Memref sig (Dev.tc n : Thread nD τ).2.kind .vmem S512x512 .fp8e4m3 from dst).view.ref.isScScratch = false}
    {he : src.view.WordExact} {he' : dst.view.WordExact}
    {hsem : DmaTarget.Typed (p := (Proc.tc : Proc τ)) .vmem (.dma qr) (.remote (Dev.tc n : Thread nD τ) dst (.dma qs) hsc)}
    {O₀ : CellTallies nD τ sig Unit} (O : CellTallies nD τ sig Unit)
    (hO : O₀ = O + tallyAt (recvCell (up c j) j) () NC) :
    iprop(records m K ∗ ow c O₀ ∗ qPts m c (up c j) ∗ cAny (up c j) j ∗ dutyTok ER (sendCell c j) 0 0 ∗ dutyTok ER (recvCell (up c j) j) 0 0)
      ⊢ iprop(((cred (tallyAt (sendCell c j) () NC) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) he he' hsem) k) Q) := by
  subst hn hqs hqr hsrc hdst
  unfold ow cAny
  iintro ⟨#HR, ⟨%W, HO⟩, HQ, ⟨%f, HC⟩, HTs, HTr⟩ Hk
  have h := Rounds.wp_send_pointsTo 𝒱₀ ER (Rd (F := F) m) (c : Thread nD τ) none (κ₁ := K (c, sendI j)) (κ₂ := K (up c j, recvI j))
    (c' := (up c j : Thread nD τ)) (src := qB (up c j)) (dst := cB j) (hsc := hsc) (sS := csem (sendI j)) (sem := csem (recvI j))
    (hsrc := he) (hdst := he') (hsem := hsem) (defs := defs₀ (F := F)) (Γ := .empty) (k := k) (Q := Q) (q := fullShare) (fs := xq m c) (fd := f)
    (r₁ := 0) (r₂ := 0) (d₁ := 0) (d₂ := 0) (Es := Set.univ)
    (by rw [show ((c : Thread nD τ), csem (sendI j)) = sendCell c j from rfl, duties_send]; exact Finset.mem_singleton_self _)
    (by rw [show ((up c j : Thread nD τ), csem (recvI j)) = recvCell (up c j) j from rfl, duties_recv]; exact Finset.mem_singleton_self _)
    () () NC (NC_cB j) (amount_send m c j 0 0) (amount_recv m (up c j) j 0 0) (O₀ := O₀) O hO (W := W)
    (by rw [show ((c : Thread nD τ), csem (sendI j)) = sendCell c j from rfl, payload_send]; unfold sendPay qPts; exact BI.Entails.refl _)
    (by
      rw [show ((up c j : Thread nD τ), csem (recvI j)) = recvCell (up c j) j from rfl, payload_recv]
      unfold recvPay cPts
      iintro H
      iexists _
      isplitr; swap; · iexact H
      ipureintro
      rw [View.read_write_univ, dn_up]; rfl)
  iapply h $$ [HO HQ HC HTs HTr]
  · isplitr; · iapply (inv_get m K (c, sendI j)) $$ HR
    isplitr; · iapply (inv_get m K (up c j, recvI j)) $$ HR
    isplitl [HQ]; · unfold qPts; iexact HQ
    isplitl [HC]; · unfold cPts; iexact HC
    isplitl [HO]; · iexact HO
    isplitl [HTs]; · iexact HTs
    isplitr; · iapply (reach_get m K (c, sendI j)) $$ HR
    isplitl [HTr]; · iexact HTr
    iapply (reach_get m K (up c j, recvI j)) $$ HR
  iintro ⟨HC, HO⟩
  iapply Hk
  isplitl [HC]; · iexact HC
  iexists W; iexact HO

end Cert.A2A

end
-- ==== Proof.Loops1.lean ====
/- Three of the body's loops: the signals to every other device's barrier, the sends, and the waits for the sends. -/
module

public import proofs.«01_k».proof.Proof.Ops

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Fin 17) → ℕ)

abbrev barM : Sems sig S_ := SemArray.scalar (sig.barrier 0 rfl)

/-! ## The signalling loop -/

abbrev body1 (c : Dev nD) (v2 w : BitVec 32) := k0_t1_body (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7 c v2 barM w

/-- Before trip `i`: the signals and receive credits still owed, the tokens and landing slots still to hand out. -/
def I1 (c : Dev nD) (i : ℕ) : sProp 𝕄 :=
  iprop(records m K ∗ ow c (Orecv c 0 + Obar c i) ∗ bigSep (fr 7 i) fun j : Fin 7 => iprop(dutyTok ER (barCell (up c j)) 0 (rev j) ∗ cAny c (rev j)))

theorem Obar_split (c : Dev nD) {i : ℕ} (h : i < 7) : Orecv c 0 + Obar c i = (Orecv c 0 + Obar c (i + 1)) + tallyAt (barCell (up c ⟨i, h⟩)) () 1 := by
  unfold Obar; rw [fr_sum h, add_assoc]

theorem step1 (c : Dev nD) (v2 w : BitVec 32) (t : Fin k0_t1_loop.trips) (a : Unit) :
    I1 m K c t.val ⊢ wp frame (wpE (defs₀ (F := F)) 𝒱₀ (c : Thread nD τ) none) Set.univ (body1 c v2 w t a) (fun _ => I1 m K c (t.val + 1)) := by
  have ht : t.val < 7 := lt_of_lt_of_eq t.isLt trips1
  unfold body1 k0_t1_body I1
  simp only [semSignalWord, Prog.lift, Prog.bind_op, Prog.bind_ret, Prog.pure_eq_ret]
  rw [fr_split ht]
  iintro ⟨#HR, HO, ⟨HT, HC⟩, HF⟩
  iapply (wp_signal_bar m K c _ ⟨t.val, ht⟩ (Fin.ext (k0_dev1_eq c t)) _ (by decide) (Orecv c 0 + Obar c (t.val + 1)) (Obar_split c ht)) $$ [HO HT HC]
  · isplitr; · iexact HR
    isplitl [HO]; · iexact HO
    isplitl [HT] <;> iassumption
  iintro HO
  rw [wp_ret]; imodintro
  isplitr; · iexact HR
  isplitl [HO] <;> iassumption

theorem loop1 (c : Dev nD) (v2 w : BitVec 32) {α : Type} {Q : α → sProp 𝕄} {kk : Unit → Prog (TpuEff nD τ sig (Elt F) Λ₀ .tc) α} :
    I1 m K c 0 ⊢ iprop((I1 m K c 7 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t1_loop k0_t1_ok ⟨⟩ (body1 c v2 w) >>= kk) Q) := by
  iintro H Hk
  iapply (Scf.wp_for_bind frame (wpE (defs₀ (F := F)) 𝒱₀ (c : Thread nD τ) none) Set.univ _ _ _ k0_t1_ok ⟨⟩ (body1 c v2 w)
    (fun i _ => I1 m K c i) (fun t a => step1 m K c v2 w t a)) $$ H
  iintro %_ H
  iapply Hk
  rw [show Scf.trips _ _ _ = 7 from trips1]
  iexact H

/-! ## The sending loop -/

abbrev body2 (c : Dev nD) (v2 w : BitVec 32) := k0_t2_body (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7 c v2 barM w

/-- What trip `j` sends with: the rows, the landing slot, the two duties. -/
def sendKit (c : Dev nD) (j : Fin 7) : sProp 𝕄 :=
  iprop(qPts m c (up c j) ∗ cAny (up c j) j ∗ dutyTok ER (sendCell c j) 0 0 ∗ dutyTok ER (recvCell (up c j) j) 0 0)
def sendCred (c : Dev nD) (j : Fin 7) : sProp 𝕄 := cred (tallyAt (sendCell c j) () NC)

/-- Before trip `i`: the receive credits still owed, what the trips to come send with, the credits of the sends started. -/
def I2 (c : Dev nD) (i : ℕ) : sProp 𝕄 :=
  iprop(records m K ∗ ow c (Orecv c i) ∗ bigSep (fr 7 i) (fun j : Fin 7 => sendKit m c j) ∗ bigSep (bl 7 i) fun j : Fin 7 => sendCred c j)

theorem Orecv_split (c : Dev nD) {i : ℕ} (h : i < 7) : Orecv c i = Orecv c (i + 1) + tallyAt (recvCell (up c ⟨i, h⟩) ⟨i, h⟩) () NC := by
  unfold Orecv; rw [fr_sum h]

theorem step2 (c : Dev nD) (v2 w : BitVec 32) (t : Fin k0_t2_loop.trips) (a : Unit) :
    I2 m K c t.val ⊢ wp frame (wpE (defs₀ (F := F)) 𝒱₀ (c : Thread nD τ) none) Set.univ (body2 c v2 w t a) (fun _ => I2 m K c (t.val + 1)) := by
  have ht : t.val < 7 := lt_of_lt_of_eq t.isLt trips2
  unfold body2 k0_t2_body I2
  simp only [Prog.lift, Prog.bind_op, Prog.bind_ret, Prog.pure_eq_ret]
  rw [fr_split ht, bl_split ht]
  iintro ⟨#HR, HO, ⟨HS, HF⟩, HB⟩
  iapply (wp_send_rows m K c _ ⟨t.val, ht⟩ (Fin.ext (k0_dev2_eq c t)) _ _ (sendS_of ⟨t.val, ht⟩ (k0_off2_eq t) _) (recvS_of ⟨t.val, ht⟩ (k0_off2_eq t) _)
    (qB_of (up c ⟨t.val, ht⟩) (k0_off4_eq c t) _) (cB_of ⟨t.val, ht⟩ (k0_off3_eq t) _) (Orecv c (t.val + 1)) (Orecv_split c ht)) $$ [HO HS]
  · isplitr; · iexact HR
    isplitl [HO]; · iexact HO
    unfold sendKit; iexact HS
  iintro ⟨HC, HO⟩
  rw [wp_ret]; imodintro
  isplitr; · iexact HR
  isplitl [HO]; · iexact HO
  isplitl [HF]; · iexact HF
  isplitl [HC]; · unfold sendCred; iexact HC
  iexact HB

theorem loop2 (c : Dev nD) (v2 w : BitVec 32) {α : Type} {Q : α → sProp 𝕄} {kk : Unit → Prog (TpuEff nD τ sig (Elt F) Λ₀ .tc) α} :
    I2 m K c 0 ⊢ iprop((I2 m K c 7 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t2_loop k0_t2_ok ⟨⟩ (body2 c v2 w) >>= kk) Q) := by
  iintro H Hk
  iapply (Scf.wp_for_bind frame (wpE (defs₀ (F := F)) 𝒱₀ (c : Thread nD τ) none) Set.univ _ _ _ k0_t2_ok ⟨⟩ (body2 c v2 w)
    (fun i _ => I2 m K c i) (fun t a => step2 m K c v2 w t a)) $$ H
  iintro %_ H
  iapply Hk
  rw [show Scf.trips _ _ _ = 7 from trips2]
  iexact H

/-! ## The loop of send waits -/

abbrev body4 := k0_t4_body (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7

def sendWait (c : Dev nD) (j : Fin 7) : sProp 𝕄 := iprop(sendCred c j ∗ atPos ER (sendCell c j) 0 ∅ 0)
def sendDone (c : Dev nD) (j : Fin 7) : sProp 𝕄 := iprop(qPts m c (up c j) ∗ semVal (sendCell c j) 0)

/-- Before trip `i`: the sends still to wait for; the rows back and the cells closed for those waited for. -/
def I4 (c : Dev nD) (i : ℕ) : sProp 𝕄 :=
  iprop(records m K ∗ ow c 0 ∗ bigSep (fr 7 i) (fun j : Fin 7 => sendWait c j) ∗ bigSep (bl 7 i) fun j : Fin 7 => sendDone m c j)

theorem later_send (c : Dev nD) (j : Fin 7) : ∀ r, 0 + 1 ≤ r → (Rd (F := F) m).duties (sendCell c j) r = ∅ :=
  duties_none m _ 1 (le_of_eq (nr_send j))
theorem later_recv (c : Dev nD) (j : Fin 7) : ∀ r, 0 + 1 ≤ r → (Rd (F := F) m).duties (recvCell c j) r = ∅ :=
  duties_none m _ 1 (le_of_eq (nr_recv j))
theorem later_w (c : Dev nD) (s : Fin 2) : ∀ r, 4 ≤ r → (Rd (F := F) m).duties (wCell c s) r = ∅ :=
  duties_none m _ 4 (le_of_eq (nr_w s))
theorem later_x (c : Dev nD) : ∀ r, 0 + 1 ≤ r → (Rd (F := F) m).duties (xCell c) r = ∅ :=
  duties_none m _ 1 (le_of_eq nr_x)
theorem later_bar (c : Dev nD) : ∀ r, 1 ≤ r → (Rd (F := F) m).duties (barCell c) r = ∅ :=
  duties_none m _ 1 (le_of_eq rfl)

/-- A cell of the kernel whose rounds are over closes, its counter at zero. -/
theorem close (p : Dev nD × Option (Fin 17)) (R : ℕ) (h : ∀ r, R ≤ r → (Rd (F := F) m).duties (kcell p) r = ∅) :
    iprop(records m K ∗ atPos ER (kcell p) R ∅ 0) ⊢ iprop(|={Set.univ}=> semVal (kcell p) 0) := by
  iintro ⟨#HR, HA⟩
  iapply (Rounds.cell_close ER (Rd m) (Set.mem_univ (K p)) (fun h => h) (R := R) h)
  isplitr; · iapply (inv_get m K p) $$ HR
  iexact HA

theorem step4 (c : Dev nD) (t : Fin k0_t4_loop.trips) (a : Unit) :
    I4 m K c t.val ⊢ wp frame (wpE (defs₀ (F := F)) 𝒱₀ (c : Thread nD τ) none) Set.univ (body4 t a) (fun _ => I4 m K c (t.val + 1)) := by
  have ht : t.val < 7 := lt_of_lt_of_eq t.isLt trips4
  unfold body4 k0_t4_body I4
  simp only [Prog.lift, Prog.bind_op, Prog.bind_ret, Prog.pure_eq_ret]
  rw [fr_split ht, bl_split ht]
  unfold sendWait sendCred
  iintro ⟨#HR, HO, ⟨⟨HC, HA⟩, HF⟩, HB⟩
  iapply (wp_wait_cell m K c (sendI ⟨t.val, ht⟩) _ (congrArg SemLoc.dma (sendS_of ⟨t.val, ht⟩ (k0_off16_eq t) _)) NC (NC_qB 0) 0 (expect_send m c ⟨t.val, ht⟩) 0) $$ [HO HC HA]
  · isplitr; · iapply (inv_get m K (c, sendI ⟨t.val, ht⟩)) $$ HR
    isplitl [HC]; · iexact HC
    isplitl [HO]; · iexact HO
    isplitr; · rw [MayWait_zero]; iempintro
    iexact HA
  iintro ⟨HO, HA, -, HP⟩
  ihave HP := (Entails.of_eq (rest_send m c ⟨t.val, ht⟩)) $$ HP
  imod (close m K (c, sendI ⟨t.val, ht⟩) (0 + 1) (later_send m c ⟨t.val, ht⟩)) $$ [HA] with HZ
  · isplitr; · iexact HR
    iexact HA
  rw [wp_ret]; imodintro
  isplitr; · iexact HR
  isplitl [HO]; · iexact HO
  isplitl [HF]; · iexact HF
  isplitl [HP HZ]
  · unfold sendDone sendPay
    isplitl [HP] <;> iassumption
  iexact HB

theorem loop4 (c : Dev nD) {α : Type} {Q : α → sProp 𝕄} {kk : Unit → Prog (TpuEff nD τ sig (Elt F) Λ₀ .tc) α} :
    I4 m K c 0 ⊢ iprop((I4 m K c 7 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t4_loop k0_t4_ok ⟨⟩ body4 >>= kk) Q) := by
  iintro H Hk
  iapply (Scf.wp_for_bind frame (wpE (defs₀ (F := F)) 𝒱₀ (c : Thread nD τ) none) Set.univ _ _ _ k0_t4_ok ⟨⟩ body4
    (fun i _ => I4 m K c i) (fun t a => step4 m K c t a)) $$ H
  iintro %_ H
  iapply Hk
  rw [show Scf.trips _ _ _ = 7 from trips4]
  iexact H

end Cert.A2A

end
-- ==== Proof.Mem.lean ====
/- Loads and stores of the body, at the pieces of memory the proof keeps. -/
module

public import proofs.«01_k».proof.Proof.Ops

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem off2_zero : (![0, 0] : Fin 2 → ℕ) = fun _ => 0 := by funext a; fin_cases a <;> rfl

/-- The result buffer of device `c` at `f`. -/
def oPts (c : Dev nD) (f : Buf (Elt F) ((c : Thread nD τ).loc cc0_stg2_0)) : sProp 𝕄 := ((c : Thread nD τ).loc cc0_stg2_0) ↦{fullShare} f

/-- Loading the whole result buffer. -/
theorem wp_load_o {α : Type} {Q : α → sProp 𝕄} (c : Dev nD) (f : Buf (Elt F) ((c : Thread nD τ).loc cc0_stg2_0)) {inb} {hl}
    {k : Vec F S512x8192 .f32 → Prog (TpuEff nD τ sig (Elt F) Λ₀ .tc) α} :
    oPts c f ⊢ iprop((oPts c f -∗ wp frame (wpE (defs₀ (F := F)) 𝒱₀ (c : Thread nD τ) none) Set.univ (k f) Q)
      -∗ wp frame (wpE (defs₀ (F := F)) 𝒱₀ (c : Thread nD τ) none) Set.univ (.op (.load oM (Rect.unit (s := S512x8192) ![0, 0] S512x8192.size inb).toLoadRect hl) k) Q) := by
  have h := wp_load 𝒱₀ (c : Thread nD τ) none Set.univ (defs := defs₀ (F := F)) (Γ := .empty) (m := oM) (r := (Rect.unit (s := S512x8192) ![0, 0] S512x8192.size inb).toLoadRect)
    (hl := hl) (k := k) (Q := Q) (S := Finset.univ) (q := fullShare) (f := f) (Finset.subset_univ _)
  have e : oM.view.readAt (Elt F) (Rect.unit (s := S512x8192) ![0, 0] S512x8192.size inb).toLoadRect f = f := Memref.readAt_unit_zero (Elt F) cc0_stg2_0 off2_zero inb f
  unfold oPts
  rw [e] at h
  exact h

/-- Overwriting the whole result buffer. -/
theorem wp_store_o {α : Type} {Q : α → sProp 𝕄} (c : Dev nD) (f : Buf (Elt F) ((c : Thread nD τ).loc cc0_stg2_0)) {inb} {w : Vec F S512x8192 .f32} {hx} {hm}
    {k : PUnit → Prog (TpuEff nD τ sig (Elt F) Λ₀ .tc) α} :
    oPts c f ⊢ iprop((oPts c w -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S512x8192) ![0, 0] S512x8192.size inb) w Finset.univ hx hm) k) Q) := by
  have h := wp_store 𝒱₀ (c : Thread nD τ) none Set.univ (defs := defs₀ (F := F)) (Γ := .empty) (m := oM) (r := (Rect.unit (s := S512x8192) ![0, 0] S512x8192.size inb))
    (hx := hx) (hm := hm) (w := w) (Mk := Finset.univ) (k := k) (Q := Q) (S := Finset.univ) (f := f) (Finset.subset_univ _)
  have e : (oM.access (Rect.unit (s := S512x8192) ![0, 0] S512x8192.size inb)).write (Elt F) f w Finset.univ = w := Memref.write_access_unit_zero_univ (Elt F) cc0_stg2_0 off2_zero inb f w
  unfold oPts
  rw [e] at h
  exact h

/-- Loading landing slot `j`. -/
theorem wp_load_c {α : Type} {Q : α → sProp 𝕄} (c : Dev nD) (j : Fin 7) (f : Buf (Elt F) ((c : Thread nD τ).loc cc0_scratch1)) {off : Fin 3 → ℕ} (ho : off = ![j.val, 0, 0]) {inb} {hl}
    {k : Vec F S1x512x512 .fp8e4m3 → Prog (TpuEff nD τ sig (Elt F) Λ₀ .tc) α} :
    cPts c j f ⊢ iprop((cPts c j f -∗ wp frame (wpE (defs₀ (F := F)) 𝒱₀ (c : Thread nD τ) none) Set.univ (k (cM.view.readAt (Elt F) (cR j).toLoadRect f)) Q)
      -∗ wp frame (wpE (defs₀ (F := F)) 𝒱₀ (c : Thread nD τ) none) Set.univ (.op (.load cM (Rect.unit (s := S7x512x512) off S1x512x512.size inb).toLoadRect hl) k) Q) := by
  subst ho
  unfold cPts
  exact wp_load 𝒱₀ (c : Thread nD τ) none Set.univ (m := cM) (r := (cR j).toLoadRect)
    (by rw [View.set_reshape, View.set_slice]; exact Finset.Subset.refl _)

/-- Loading weight slot `s`. -/
theorem wp_load_v {α : Type} {Q : α → sProp 𝕄} (c : Dev nD) (s : Fin 2) (f : Buf (Elt F) ((c : Thread nD τ).loc cc0_scratch2)) {off : Fin 3 → ℕ} (ho : off = ![s.val, 0, 0]) {inb} {hl}
    {k : Vec F S1x512x8192 .f32 → Prog (TpuEff nD τ sig (Elt F) Λ₀ .tc) α} :
    vPts c s f ⊢ iprop((vPts c s f -∗ wp frame (wpE (defs₀ (F := F)) 𝒱₀ (c : Thread nD τ) none) Set.univ (k (vM.view.readAt (Elt F) (vR s).toLoadRect f)) Q)
      -∗ wp frame (wpE (defs₀ (F := F)) 𝒱₀ (c : Thread nD τ) none) Set.univ (.op (.load vM (Rect.unit (s := S2x512x8192) off S1x512x8192.size inb).toLoadRect hl) k) Q) := by
  subst ho
  unfold vPts
  exact wp_load 𝒱₀ (c : Thread nD τ) none Set.univ (m := vM) (r := (vR s).toLoadRect)
    (by rw [View.set_reshape, View.set_slice]; exact Finset.Subset.refl _)

/-- Loading the device's own rows block of the cast activations. -/
theorem wp_load_q {α : Type} {Q : α → sProp 𝕄} (c j : Dev nD) {off : Fin 2 → ℕ} (ho : off = ![512 * j.val, 0]) {inb} {hl}
    {k : Vec F S512x512 .fp8e4m3 → Prog (TpuEff nD τ sig (Elt F) Λ₀ .tc) α} :
    qPts m c j ⊢ iprop((qPts m c j -∗ wp frame (wpE (defs₀ (F := F)) 𝒱₀ (c : Thread nD τ) none) Set.univ (k (blk m c j)) Q)
      -∗ wp frame (wpE (defs₀ (F := F)) 𝒱₀ (c : Thread nD τ) none) Set.univ (.op (.load qM (Rect.unit (s := S4096x512) off S512x512.size inb).toLoadRect hl) k) Q) := by
  subst ho
  unfold qPts
  exact wp_load 𝒱₀ (c : Thread nD τ) none Set.univ (m := qM) (r := (qR j).toLoadRect)
    (by rw [View.set_slice]; exact Finset.Subset.refl _)

end Cert.A2A

end
-- ==== Proof.Loops3.lean ====
/- The accumulating loop: each trip starts the next copy of the weights, waits for the one at hand and for one received block, and adds their product. -/
module

public import proofs.«01_k».proof.Proof.Loops1
public import proofs.«01_k».proof.Proof.Mem

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Fin 17) → ℕ)

/-! ## The invariant -/

/-- The weight slot of copy `d`. -/
def sl (d : ℕ) : Fin 2 := ⟨d % 2, Nat.mod_lt _ (by decide)⟩
theorem sl_add (d : ℕ) : sl (d + 2) = sl d := Fin.ext (by show (d + 2) % 2 = d % 2; omega)

/-- Copy `d` of the weights is in flight, or there is no such copy and its slot is free. -/
def flight (c : Dev nD) (d : ℕ) : sProp 𝕄 := if d < 8 then cred (tallyAt (wCell c (sl d)) () NW) else vAny c (sl d)
theorem flight_lt (c : Dev nD) {d : ℕ} (h : d < 8) : flight (F := F) c d = cred (tallyAt (wCell c (sl d)) () NW) := if_pos h
theorem flight_ge (c : Dev nD) {d : ℕ} (h : 8 ≤ d) : flight (F := F) c d = vAny c (sl d) := if_neg (by omega)
def wTok (c : Dev nD) (d : Fin 8) : sProp 𝕄 := dutyTok ER (wCell c (sl d.val)) (d.val / 2) 0
/-- Some share of the weights. -/
def wAny (c : Dev nD) : sProp 𝕄 := iprop(∃ q : PosShare TreeShare, ((c : Thread nD τ).loc main_arg1) ↦{q} wIn m c)
def recvWait (c : Dev nD) (j : Fin 7) : sProp 𝕄 := iprop(cred (tallyAt (recvCell c j) () NC) ∗ atPos ER (recvCell c j) 0 ∅ 0)
def recvDone (c : Dev nD) (j : Fin 7) : sProp 𝕄 := iprop(cAny c j ∗ semVal (recvCell c j) 0)
/-- Where the wait on slot `s` stands. -/
def wAt (c : Dev nD) (s : Fin 2) (r : ℕ) : sProp 𝕄 := iprop(atPos ER (wCell c s) r ∅ 0 ∗ reached ER (wCell c s) r)

/-- Before trip `i`: `i + 1` products are summed, copy `i + 1` is in flight, slot `i` is free. -/
def I3 (c : Dev nD) (i : ℕ) : sProp 𝕄 :=
  iprop(records m K ∗ ow c 0 ∗ wAny m c ∗ oPts c (acc m c i) ∗ vAny c (sl i) ∗ flight c (i + 1) ∗ wAt c (sl i) (i / 2 + 1)
    ∗ atPos ER (wCell c (sl (i + 1))) ((i + 1) / 2) ∅ 0 ∗ bigSep (fr 8 (i + 2)) (wTok c) ∗ bigSep (fr 7 i) (fun j : Fin 7 => recvWait c j) ∗ bigSep (bl 7 i) fun j : Fin 7 => recvDone c j)
/-- Within trip `i`, after the next copy has been started. -/
def M3 (c : Dev nD) (i : ℕ) : sProp 𝕄 :=
  iprop(records m K ∗ ow c 0 ∗ wAny m c ∗ oPts c (acc m c i) ∗ flight c (i + 2) ∗ flight c (i + 1) ∗ atPos ER (wCell c (sl i)) (i / 2 + 1) ∅ 0
    ∗ atPos ER (wCell c (sl (i + 1))) ((i + 1) / 2) ∅ 0 ∗ bigSep (fr 8 (i + 3)) (wTok c) ∗ bigSep (fr 7 i) (fun j : Fin 7 => recvWait c j) ∗ bigSep (bl 7 i) fun j : Fin 7 => recvDone c j)

/-! ## Starting the next copy -/

theorem cond1_lt : ∀ t : Fin k0_t3_loop.trips, k0_cond1 t = 1#1 → t.val < 6 := by decide
theorem cond1_ge : ∀ t : Fin k0_t3_loop.trips, ¬ k0_cond1 t = 1#1 → t.val = 6 := by decide

/-- Copy `d` of the weights in the terms of the loop: it needs its slot free and its round reached. -/
theorem wp_next {α : Type} {Q : α → sProp 𝕄} {k : PUnit → Prog (TpuEff nD τ sig (Elt F) Λ₀ .tc) α}
    (c : Dev nD) (d : ℕ) (hd8 : d < 8) (q : DmaSem sig) (hq : q = ⟨(sl d).val + 14 + 3, by show _ < 20; omega⟩)
    {src : Memref sig .tc .hbm S512x8192 .f32} {dst : Memref sig .tc .vmem S512x8192 .f32} (hsrc : src = wB (dn c d)) (hdst : dst = vB (sl d))
    {he : src.view.WordExact} {he' : dst.view.WordExact} {hsem : DmaTarget.Typed (nD := nD) .hbm (.dma q) (DmaTarget.here (p := (Proc.tc : Proc τ)) dst)} :
    iprop(records m K ∗ wAny m c ∗ vAny c (sl d) ∗ wTok c ⟨d, hd8⟩ ∗ reached ER (wCell c (sl d)) (d / 2))
      ⊢ iprop(((flight c d ∗ wAny m c) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) he he' hsem) k) Q) := by
  rw [flight_lt c hd8]
  unfold wAny wTok
  iintro ⟨#HR, ⟨%p, HW⟩, HV, HT, #Hr⟩ Hk
  iapply (wp_copy_w m K c d hd8 (sl d) rfl q hq hsrc hdst p) $$ [HW HV HT]
  · isplitr; · iapply (inv_get m K (c, wI (sl d))) $$ HR
    isplitl [HW]; · iexact HW
    isplitl [HV]; · iexact HV
    isplitl [HT]; · iexact HT
    iexact Hr
  iintro ⟨HC, HW⟩
  iapply Hk
  isplitl [HC]; · iexact HC
  iexists _; iexact HW

abbrev body3 (c : Dev nD) (v2 w : BitVec 32) := k0_t3_body (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7 c v2 barM w

/-- The conditional at the head of a trip: what follows it may assume the next copy started, or its slot still free. -/
theorem wp_start (c : Dev nD) (t : Fin k0_t3_loop.trips) {α : Type} {Q : α → sProp 𝕄} (J : Prog (TpuEff nD τ sig (Elt F) Λ₀ .tc) α)
    (hJ : M3 m K c t.val ⊢ wp frame (wpE (defs₀ (F := F)) 𝒱₀ (c : Thread nD τ) none) Set.univ J Q) :
    I3 m K c t.val ⊢ wp frame (wpE (defs₀ (F := F)) 𝒱₀ (c : Thread nD τ) none) Set.univ (if h : k0_cond1 t = 1#1 then
        .op (.enqueueDma (wM.slice (Rect.unit (s := S4096x8192) (k0_off8 c t) S512x8192.size (k0_off8_inb c t h)) (fun _ => rfl))
          (.here ((vM.slice (Rect.unit (s := S2x512x8192) (k0_off7 t) S1x512x8192.size (k0_off7_inb t h)) (fun _ => rfl)).squeeze S512x8192 squeezes_S1x512x8192_S512x8192))
          (.dma ((cc0_scratch6.slice (Rect.unit (s := S2) (k0_off6 t) S1.size (k0_off6_inb t h))).squeeze S_ squeezes_S1_S_).sem)
          (View.wordExact_bits rfl) ((View.wordExact_bits rfl).reshape _ _) ⟨Or.inl rfl, trivial⟩) fun _ => J
      else J) Q := by
  have ht : t.val < 7 := lt_of_lt_of_eq t.isLt trips3
  by_cases hc : k0_cond1 t = 1#1
  · have h6 := cond1_lt t hc
    rw [dif_pos hc]
    simp only [Prog.lift, Prog.bind_op, Prog.bind_ret, Prog.pure_eq_ret]
    unfold M3 at hJ
    unfold I3 wAt
    rw [fr_split (show t.val + 2 < 8 by omega)]
    iintro ⟨#HR, HO, HW, Ho, HV, HF, ⟨HA, #Hr⟩, HA', ⟨HT, HTs⟩, HR1, HR2⟩
    iapply (wp_next m K c (t.val + 2) (by omega) _ (wS_of (sl (t.val + 2)) ((k0_off6_eq t).trans ?_) _) (wB_of (dn c (t.val + 2)) ((k0_off8_eq c t).trans ?_) _)
      (vB_of (sl (t.val + 2)) ((k0_off7_eq t).trans ?_) _)) $$ [HW HV HT]
    · show _ = ![(t.val + 2) % 2]
      congr 1; omega
    · show _ = ![512 * ((c.val + 8 - (t.val + 2)) % 8), 0]
      have : c.val + 8 - (t.val + 2) = c.val + 6 - t.val := by omega
      rw [this]
    · show _ = ![(t.val + 2) % 2, 0, 0]
      have : 1 - (t.val + 1) % 2 = (t.val + 2) % 2 := by omega
      rw [this]
    · isplitr; · iexact HR
      isplitl [HW]; · iexact HW
      rw [sl_add, show (t.val + 2) / 2 = t.val / 2 + 1 by omega]
      isplitl [HV]; · iexact HV
      isplitl [HT]; · iexact HT
      iexact Hr
    iintro ⟨HC, HW⟩
    iapply hJ
    isplitr; · iexact HR
    isplitl [HO]; · iexact HO
    isplitl [HW]; · iexact HW
    isplitl [Ho]; · iexact Ho
    isplitl [HC]; · iexact HC
    isplitl [HF]; · iexact HF
    isplitl [HA]; · iexact HA
    isplitl [HA']; · iexact HA'
    isplitl [HTs]; · iexact HTs
    isplitl [HR1]; · iexact HR1
    iexact HR2
  · have h6 := cond1_ge t hc
    rw [dif_neg hc]
    simp only [Prog.pure_eq_ret]
    unfold M3 at hJ
    unfold I3 wAt
    rw [flight_ge c (show 8 ≤ t.val + 2 by omega), sl_add] at hJ
    have e1 : fr 8 (t.val + 2) = ∅ := by rw [h6]; exact fr_top 8
    have e2 : fr 8 (t.val + 3) = ∅ := by rw [h6]; decide
    rw [e2] at hJ
    rw [e1]
    iintro ⟨#HR, HO, HW, Ho, HV, HF, ⟨HA, #Hr⟩, HA', HTs, HR1, HR2⟩
    iapply hJ
    isplitr; · iexact HR
    isplitl [HO]; · iexact HO
    isplitl [HW]; · iexact HW
    isplitl [Ho]; · iexact Ho
    isplitl [HV]; · iexact HV
    isplitl [HF]; · iexact HF
    isplitl [HA]; · iexact HA
    isplitl [HA']; · iexact HA'
    isplitl [HTs]; · iexact HTs
    isplitl [HR1]; · iexact HR1
    iexact HR2

theorem step3 (c : Dev nD) (v2 w : BitVec 32) (t : Fin k0_t3_loop.trips) (a : Unit) :
    I3 m K c t.val ⊢ wp frame (wpE (defs₀ (F := F)) 𝒱₀ (c : Thread nD τ) none) Set.univ (body3 c v2 w t a) (fun _ => I3 m K c (t.val + 1)) := by
  have ht : t.val < 7 := lt_of_lt_of_eq t.isLt trips3
  unfold body3 k0_t3_body
  rw [k0_part1_eq_skeleton]
  unfold k0_part1_skel
  rw [wp_bind]
  refine wp_start m K c t _ ?_
  simp only [Prog.lift, Prog.bind_op, Prog.bind_ret, Prog.pure_eq_ret]
  unfold M3 I3
  rw [fr_split ht, bl_split ht, flight_lt c (show t.val + 1 < 8 by omega)]
  unfold recvWait
  iintro ⟨#HR, HO, HW, Ho, HF2, HF, HA, HA', HTs, ⟨⟨HC, HAr⟩, HR1⟩, HR2⟩
  iapply (wp_wait_cell m K c (wI (sl (t.val + 1))) _ (congrArg SemLoc.dma (wS_of (sl (t.val + 1)) (k0_off9_eq t) _))
    (dst := (vM.slice (Rect.unit (s := S2x512x8192) (k0_off10 t) S1x512x8192.size (k0_off10_inb t)) (fun _ => rfl)).squeeze S512x8192 squeezes_S1x512x8192_S512x8192) NW (NW_vB 0) ((t.val + 1) / 2)
    (expect_w m c (sl (t.val + 1)) _ (by omega)) 0) $$ [HO HF HA']
  · isplitr; · iapply (inv_get m K (c, wI (sl (t.val + 1)))) $$ HR
    isplitl [HF]; · iexact HF
    isplitl [HO]; · iexact HO
    isplitr; · rw [MayWait_zero]; iempintro
    iexact HA'
  iintro ⟨HO, HA', Hr', HP⟩
  ihave HP := (Entails.of_eq (rest_w m c (sl (t.val + 1)) _ (by omega))) $$ HP
  unfold wPay
  icases HP with ⟨%fw, %hfw, HV⟩
  iapply (wp_wait_cell m K c (recvI ⟨t.val, ht⟩) _ (congrArg SemLoc.dma (recvS_of ⟨t.val, ht⟩ (k0_off12_eq t) _))
    (dst := (cM.slice (Rect.unit (s := S7x512x512) (k0_off13 t) S1x512x512.size (k0_off13_inb t)) (fun _ => rfl)).squeeze S512x512 squeezes_S1x512x512_S512x512) NC (NC_cB 0) 0 (expect_recv m c ⟨t.val, ht⟩) 0) $$ [HO HC HAr]
  · isplitr; · iapply (inv_get m K (c, recvI ⟨t.val, ht⟩)) $$ HR
    isplitl [HC]; · iexact HC
    isplitl [HO]; · iexact HO
    isplitr; · rw [MayWait_zero]; iempintro
    iexact HAr
  iintro ⟨HO, HAr, -, HP⟩
  ihave HP := (Entails.of_eq (rest_recv m c ⟨t.val, ht⟩)) $$ HP
  unfold recvPay
  icases HP with ⟨%fc, %hfc, HC⟩
  imod (close m K (c, recvI ⟨t.val, ht⟩) (0 + 1) (later_recv m c ⟨t.val, ht⟩)) $$ [HAr] with HZ
  · isplitr; · iexact HR
    iexact HAr
  iapply (wp_load_o c _) $$ Ho
  iintro Ho
  iapply (wp_load_c c ⟨t.val, ht⟩ fc (k0_off14_eq t)) $$ HC
  iintro HC
  rw [wp_ret]; imodintro
  iapply (wp_load_v c (sl (t.val + 1)) fw (k0_off15_eq t)) $$ HV
  iintro HV
  iapply (wp_load_o c _) $$ Ho
  iintro Ho
  iapply (wp_store_o c _) $$ Ho
  iintro Ho
  rw [wp_ret]; imodintro
  dsimp only
  rw [pay7_eq, pay2_eq, ← cB_read, ← vB_read, hfc, hfw]
  isplitr; · iexact HR
  isplitl [HO]; · iexact HO
  isplitl [HW]; · iexact HW
  isplitl [Ho]
  · have e : 2 * ((t.val + 1) / 2) + (sl (t.val + 1)).val = t.val + 1 := by
      show 2 * ((t.val + 1) / 2) + (t.val + 1) % 2 = t.val + 1; omega
    rw [e]; iexact Ho
  isplitl [HV]; · unfold vAny; iexists fw; iexact HV
  isplitl [HF2]; · iexact HF2
  isplitl [HA' Hr']; · unfold wAt; isplitl [HA'] <;> iassumption
  isplitl [HA]
  · rw [show t.val + 1 + 1 = t.val + 2 from rfl, sl_add, show (t.val + 2) / 2 = t.val / 2 + 1 by omega]; iexact HA
  isplitl [HTs]; · iexact HTs
  isplitl [HR1]; · iexact HR1
  isplitl [HC HZ]
  · unfold recvDone cAny
    isplitl [HC]; · iexists fc; iexact HC
    iexact HZ
  iexact HR2

theorem loop3 (c : Dev nD) (v2 w : BitVec 32) {α : Type} {Q : α → sProp 𝕄} {kk : Unit → Prog (TpuEff nD τ sig (Elt F) Λ₀ .tc) α} :
    I3 m K c 0 ⊢ iprop((I3 m K c 7 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t3_loop k0_t3_ok ⟨⟩ (body3 c v2 w) >>= kk) Q) := by
  iintro H Hk
  iapply (Scf.wp_for_bind frame (wpE (defs₀ (F := F)) 𝒱₀ (c : Thread nD τ) none) Set.univ _ _ _ k0_t3_ok ⟨⟩ (body3 c v2 w)
    (fun i _ => I3 m K c i) (fun t a => step3 m K c v2 w t a)) $$ H
  iintro %_ H
  iapply Hk
  rw [show Scf.trips _ _ _ = 7 from trips3]
  iexact H

end Cert.A2A

end
-- ==== Proof.Geo.lean ====
/- The kernel's VMEM buffers cut into the row blocks and slots the transfers move, and put back together. -/
module

public import proofs.«01_k».proof.Proof.Sched

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cast activations: eight row blocks -/

theorem mem_qB (j : Dev nD) (i : (cc0_scratch0 : Ref sig .tc).ty.shape.Idx) : i ∈ (qB j).view.set ↔ (i 0).val / 512 = j.val := by
  show i ∈ ((View.whole cc0_scratch0).slice (qR j)).set ↔ _
  rw [View.set_slice_whole, Rect.mem_set_unit]
  have h1 : (i 1).val < 512 := (i 1).isLt
  constructor
  · intro h
    have h0 : 512 * j.val ≤ (i 0).val ∧ (i 0).val < 512 * j.val + 512 := h 0
    omega
  · intro h a
    fin_cases a
    · show 512 * j.val ≤ (i 0).val ∧ (i 0).val < 512 * j.val + 512; omega
    · show 0 ≤ (i 1).val ∧ (i 1).val < 0 + 512; omega

theorem mem_cB (k : Fin 7) (i : (cc0_scratch1 : Ref sig .tc).ty.shape.Idx) : i ∈ (cB k).view.set ↔ (i 0).val = k.val := by
  have e : (cB k).view.set = ((View.whole cc0_scratch1).slice (cR k)).set := View.set_reshape _ _
  rw [e, View.set_slice_whole, Rect.mem_set_unit]
  have h1 : (i 1).val < 512 := (i 1).isLt
  have h2 : (i 2).val < 512 := (i 2).isLt
  constructor
  · intro h
    have h0 : k.val ≤ (i 0).val ∧ (i 0).val < k.val + 1 := h 0
    omega
  · intro h a
    fin_cases a
    · show k.val ≤ (i 0).val ∧ (i 0).val < k.val + 1; omega
    · show 0 ≤ (i 1).val ∧ (i 1).val < 0 + 512; omega
    · show 0 ≤ (i 2).val ∧ (i 2).val < 0 + 512; omega

theorem mem_vB (s : Fin 2) (i : (cc0_scratch2 : Ref sig .tc).ty.shape.Idx) : i ∈ (vB s).view.set ↔ (i 0).val = s.val := by
  have e : (vB s).view.set = ((View.whole cc0_scratch2).slice (vR s)).set := View.set_reshape _ _
  rw [e, View.set_slice_whole, Rect.mem_set_unit]
  have h1 : (i 1).val < 512 := (i 1).isLt
  have h2 : (i 2).val < 8192 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 512; omega
    · show 0 ≤ (i 2).val ∧ (i 2).val < 0 + 8192; omega

abbrev qSet (j : Dev nD) : Finset (cc0_scratch0 : Ref sig .tc).ty.shape.Idx := (qB j).view.set
abbrev cSet (k : Fin 7) : Finset (cc0_scratch1 : Ref sig .tc).ty.shape.Idx := (cB k).view.set
abbrev vSet (s : Fin 2) : Finset (cc0_scratch2 : Ref sig .tc).ty.shape.Idx := (vB s).view.set

/-- The row blocks cover the buffer. -/
theorem q_cover : (Finset.univ : Finset (Dev nD)).biUnion qSet = Finset.univ := by
  ext i
  have h : (i 0).val < 4096 := (i 0).isLt
  simp only [Finset.mem_biUnion, Finset.mem_univ, true_and, iff_true]
  have hj : (i 0).val / 512 < 8 := by omega
  exact ⟨⟨(i 0).val / 512, hj⟩, (mem_qB ⟨(i 0).val / 512, hj⟩ i).mpr (Eq.refl ((i 0).val / 512))⟩
theorem q_disj (j j' : Dev nD) (h : j ≠ j') : Disjoint (qSet j) (qSet j') :=
  Finset.disjoint_left.mpr fun i hi hi' => h (Fin.ext (((mem_qB j i).mp hi).symm.trans ((mem_qB j' i).mp hi')))
theorem c_cover : (Finset.univ : Finset (Fin 7)).biUnion cSet = Finset.univ := by
  ext i
  have h : (i 0).val < 7 := (i 0).isLt
  simp only [Finset.mem_biUnion, Finset.mem_univ, true_and, iff_true]
  exact ⟨⟨(i 0).val, h⟩, (mem_cB _ i).mpr rfl⟩
theorem c_disj (j j' : Fin 7) (h : j ≠ j') : Disjoint (cSet j) (cSet j') :=
  Finset.disjoint_left.mpr fun i hi hi' => h (Fin.ext (((mem_cB j i).mp hi).symm.trans ((mem_cB j' i).mp hi')))
theorem v_cover : (Finset.univ : Finset (Fin 2)).biUnion vSet = Finset.univ := by
  ext i
  have h : (i 0).val < 2 := (i 0).isLt
  simp only [Finset.mem_biUnion, Finset.mem_univ, true_and, iff_true]
  exact ⟨⟨(i 0).val, h⟩, (mem_vB _ i).mpr rfl⟩
theorem v_disj (j j' : Fin 2) (h : j ≠ j') : Disjoint (vSet j) (vSet j') :=
  Finset.disjoint_left.mpr fun i hi hi' => h (Fin.ext (((mem_vB j i).mp hi).symm.trans ((mem_vB j' i).mp hi')))

/-- Every device is `c` or at a distance from it. -/
theorem univ_up (c : Dev nD) : (Finset.univ : Finset (Dev nD)) = insert c (Finset.univ.image fun k : Fin 7 => up c k) := by revert c; decide
theorem up_ne (c : Dev nD) (k : Fin 7) : up c k ≠ c := by revert c k; decide
theorem up_inj_right (c : Dev nD) : Function.Injective (up c) := by
  intro k k' h; revert c k k'; decide

/-- A conjunction over the devices is `c`'s term and those at each distance. -/
theorem bigSep_up {M : Type} [URA M] (c : Dev nD) (Φ : Dev nD → sProp M) :
    bigSep Finset.univ Φ = iprop(Φ c ∗ bigSep Finset.univ fun k : Fin 7 => Φ (up c k)) := by
  rw [univ_up c, bigSep_insert (by simp [up_ne])]
  have : (Finset.univ.image fun k : Fin 7 => up c k) = Finset.univ.map ⟨up c, up_inj_right c⟩ := by
    rw [Finset.map_eq_image]; rfl
  rw [this, bigSep_map]; rfl

/-! ## Whole buffers as their pieces -/

abbrev qAll (c : Dev nD) (f : Buf (Elt F) ((c : Thread nD τ).loc cc0_scratch0)) : sProp 𝕄 := ((c : Thread nD τ).loc cc0_scratch0) ↦{fullShare} f
abbrev cAll (c : Dev nD) (f : Buf (Elt F) ((c : Thread nD τ).loc cc0_scratch1)) : sProp 𝕄 := ((c : Thread nD τ).loc cc0_scratch1) ↦{fullShare} f
abbrev vAll (c : Dev nD) (f : Buf (Elt F) ((c : Thread nD τ).loc cc0_scratch2)) : sProp 𝕄 := ((c : Thread nD τ).loc cc0_scratch2) ↦{fullShare} f

theorem q_whole (c : Dev nD) (f : Buf (Elt F) ((c : Thread nD τ).loc cc0_scratch0)) :
    qAll c f = (((c : Thread nD τ).loc cc0_scratch0) ↦[Finset.univ.biUnion qSet]{fullShare} f : sProp 𝕄) := by
  unfold qAll; exact congrArg (fun S : Finset (Idx ((c : Thread nD τ).loc cc0_scratch0)) => (((c : Thread nD τ).loc cc0_scratch0) ↦[S]{fullShare} f : sProp 𝕄)) q_cover.symm
theorem c_whole (c : Dev nD) (f : Buf (Elt F) ((c : Thread nD τ).loc cc0_scratch1)) :
    cAll c f = (((c : Thread nD τ).loc cc0_scratch1) ↦[Finset.univ.biUnion cSet]{fullShare} f : sProp 𝕄) := by
  unfold cAll; exact congrArg (fun S : Finset (Idx ((c : Thread nD τ).loc cc0_scratch1)) => (((c : Thread nD τ).loc cc0_scratch1) ↦[S]{fullShare} f : sProp 𝕄)) c_cover.symm
theorem v_whole (c : Dev nD) (f : Buf (Elt F) ((c : Thread nD τ).loc cc0_scratch2)) :
    vAll c f = (((c : Thread nD τ).loc cc0_scratch2) ↦[Finset.univ.biUnion vSet]{fullShare} f : sProp 𝕄) := by
  unfold vAll; exact congrArg (fun S : Finset (Idx ((c : Thread nD τ).loc cc0_scratch2)) => (((c : Thread nD τ).loc cc0_scratch2) ↦[S]{fullShare} f : sProp 𝕄)) v_cover.symm
theorem q_pieces (c : Dev nD) (f : Buf (Elt F) ((c : Thread nD τ).loc cc0_scratch0)) :
    (((c : Thread nD τ).loc cc0_scratch0) ↦[Finset.univ.biUnion qSet]{fullShare} f : sProp 𝕄)
      = bigSep Finset.univ fun j => (((c : Thread nD τ).loc cc0_scratch0) ↦[qSet j]{fullShare} f : sProp 𝕄) :=
  pointsTo_biUnion (ℓ := (c : Thread nD τ).loc cc0_scratch0) Finset.univ qSet (fun j _ j' _ h => q_disj j j' h)
theorem c_pieces (c : Dev nD) (f : Buf (Elt F) ((c : Thread nD τ).loc cc0_scratch1)) :
    (((c : Thread nD τ).loc cc0_scratch1) ↦[Finset.univ.biUnion cSet]{fullShare} f : sProp 𝕄)
      = bigSep Finset.univ fun j => (((c : Thread nD τ).loc cc0_scratch1) ↦[cSet j]{fullShare} f : sProp 𝕄) :=
  pointsTo_biUnion (ℓ := (c : Thread nD τ).loc cc0_scratch1) Finset.univ cSet (fun j _ j' _ h => c_disj j j' h)
theorem v_pieces (c : Dev nD) (f : Buf (Elt F) ((c : Thread nD τ).loc cc0_scratch2)) :
    (((c : Thread nD τ).loc cc0_scratch2) ↦[Finset.univ.biUnion vSet]{fullShare} f : sProp 𝕄)
      = bigSep Finset.univ fun j => (((c : Thread nD τ).loc cc0_scratch2) ↦[vSet j]{fullShare} f : sProp 𝕄) :=
  pointsTo_biUnion (ℓ := (c : Thread nD τ).loc cc0_scratch2) Finset.univ vSet (fun j _ j' _ h => v_disj j j' h)

/-- The cast activations are the own block and those for every other device. -/
theorem q_split (c : Dev nD) : qAll c (xq m c) = iprop(qPts m c c ∗ bigSep Finset.univ fun k : Fin 7 => qPts m c (up c k)) := by
  rw [← bigSep_up c (fun j => qPts m c j)]
  unfold qPts
  rw [q_whole]
  exact q_pieces c (xq m c)

/-- The landing buffer as its seven slots, at any contents. -/
theorem c_split (c : Dev nD) : iprop(∃ f, cAll (F := F) c f) ⊢ bigSep Finset.univ fun k : Fin 7 => cAny c k := by
  iintro ⟨%f, H⟩
  have h : cAll (F := F) c f ⊢ bigSep Finset.univ fun k : Fin 7 => cPts c k f := by
    unfold cPts
    rw [c_whole]
    exact Entails.of_eq <| c_pieces c f
  have h' : (bigSep Finset.univ fun k : Fin 7 => cPts (F := F) c k f) ⊢ bigSep Finset.univ fun k : Fin 7 => cAny c k :=
    bigSep_mono fun k _ => exists_intro (PROP := sProp 𝕄) (Φ := fun f => cPts c k f) f
  iapply (h.trans h') $$ H
include m in
theorem c_join (c : Dev nD) : (bigSep Finset.univ fun k : Fin 7 => cAny (F := F) c k) ⊢ iprop(∃ f, cAll c f) := by
  haveI : Nonempty (Buf (Elt F) ((c : Thread nD τ).loc cc0_scratch1)) := ⟨m _⟩
  unfold cAny cPts
  refine (BI.bigSep_exists_pi _ _).trans ?_
  iintro ⟨%fs, H⟩
  ihave H := (pointsTo_biUnion_join (Finset.univ : Finset (Fin 7)) cSet fs (fs 0) (fun j _ j' _ h => c_disj j j' h)) $$ H
  icases H with ⟨%g, -, H⟩
  iexists g; rw [c_whole]; iexact H
theorem v_split (c : Dev nD) : iprop(∃ f, vAll (F := F) c f) ⊢ iprop(vAny c 0 ∗ vAny c 1) := by
  iintro ⟨%f, H⟩
  have h : vAll (F := F) c f ⊢ bigSep Finset.univ fun k : Fin 2 => vPts c k f := by
    unfold vPts
    rw [v_whole]
    exact Entails.of_eq <| v_pieces c f
  ihave H := h $$ H
  ihave H := (Entails.of_eq (bigSep_univ_two (fun k => vPts c k f))) $$ H
  icases H with ⟨H0, H1⟩
  unfold vAny
  isplitl [H0]; · iexists f; iexact H0
  iexists f; iexact H1
include m in
theorem v_join (c : Dev nD) : iprop(vAny (F := F) c 0 ∗ vAny c 1) ⊢ iprop(∃ f, vAll c f) := by
  have e : iprop(vAny (F := F) c 0 ∗ vAny c 1) = bigSep Finset.univ fun k : Fin 2 => vAny (F := F) c k := (bigSep_univ_two _).symm
  rw [e]
  haveI : Nonempty (Buf (Elt F) ((c : Thread nD τ).loc cc0_scratch2)) := ⟨m _⟩
  unfold vAny vPts
  refine (BI.bigSep_exists_pi _ _).trans ?_
  iintro ⟨%fs, H⟩
  ihave H := (pointsTo_biUnion_join (Finset.univ : Finset (Fin 2)) vSet fs (fs 0) (fun j _ j' _ h => v_disj j j' h)) $$ H
  icases H with ⟨%g, -, H⟩
  iexists g; rw [v_whole]; iexact H

end Cert.A2A

end
-- ==== Proof.Part2.lean ====
/- The straight parts of the body: up to the barrier, and from the barrier to the accumulated sum. -/
module

public import proofs.«01_k».proof.Proof.Loops3
public import proofs.«01_k».proof.Proof.Geo

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Fin 17) → ℕ)

/-- Loading the activations from VMEM. -/
theorem wp_load_xs {α : Type} {Q : α → sProp 𝕄} (c : Dev nD) (f : Buf (Elt F) ((c : Thread nD τ).loc cc0_scratch3)) {inb} {hl}
    {k : Vec F S4096x512 .f32 → Prog (TpuEff nD τ sig (Elt F) Λ₀ .tc) α} :
    ((c : Thread nD τ).loc cc0_scratch3 ↦{fullShare} f) ⊢ iprop((((c : Thread nD τ).loc cc0_scratch3 ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load xsM (Rect.unit (s := S4096x512) ![0, 0] S4096x512.size inb).toLoadRect hl) k) Q) := by
  have h := wp_load 𝒱₀ (c : Thread nD τ) none Set.univ (defs := defs₀ (F := F)) (Γ := .empty) (m := xsM) (r := (Rect.unit (s := S4096x512) ![0, 0] S4096x512.size inb).toLoadRect)
    (hl := hl) (k := k) (Q := Q) (S := Finset.univ) (q := fullShare) (f := f) (Finset.subset_univ _)
  have e : xsM.view.readAt (Elt F) (Rect.unit (s := S4096x512) ![0, 0] S4096x512.size inb).toLoadRect f = f := Memref.readAt_unit_zero (Elt F) cc0_scratch3 off2_zero inb f
  rw [e] at h
  exact h

/-- Loading the whole buffer of cast activations. -/
theorem wp_load_qa {α : Type} {Q : α → sProp 𝕄} (c : Dev nD) (f : Buf (Elt F) ((c : Thread nD τ).loc cc0_scratch0)) {inb} {hl}
    {k : Vec F S4096x512 .fp8e4m3 → Prog (TpuEff nD τ sig (Elt F) Λ₀ .tc) α} :
    ((c : Thread nD τ).loc cc0_scratch0 ↦{fullShare} f) ⊢ iprop((((c : Thread nD τ).loc cc0_scratch0 ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load qM (Rect.unit (s := S4096x512) ![0, 0] S4096x512.size inb).toLoadRect hl) k) Q) := by
  have h := wp_load 𝒱₀ (c : Thread nD τ) none Set.univ (defs := defs₀ (F := F)) (Γ := .empty) (m := qM) (r := (Rect.unit (s := S4096x512) ![0, 0] S4096x512.size inb).toLoadRect)
    (hl := hl) (k := k) (Q := Q) (S := Finset.univ) (q := fullShare) (f := f) (Finset.subset_univ _)
  have e : qM.view.readAt (Elt F) (Rect.unit (s := S4096x512) ![0, 0] S4096x512.size inb).toLoadRect f = f := Memref.readAt_unit_zero (Elt F) cc0_scratch0 off2_zero inb f
  rw [e] at h
  exact h

/-- Overwriting the whole buffer of cast activations. -/
theorem wp_store_qa {α : Type} {Q : α → sProp 𝕄} (c : Dev nD) (f : Buf (Elt F) ((c : Thread nD τ).loc cc0_scratch0)) {inb} {w : Vec F S4096x512 .fp8e4m3} {hx} {hm}
    {k : PUnit → Prog (TpuEff nD τ sig (Elt F) Λ₀ .tc) α} :
    ((c : Thread nD τ).loc cc0_scratch0 ↦{fullShare} f) ⊢ iprop((((c : Thread nD τ).loc cc0_scratch0 ↦{fullShare} w) -∗ wp frame (wpE (defs₀ (F := F)) 𝒱₀ (c : Thread nD τ) none) Set.univ (k ⟨⟩) Q)
      -∗ wp frame (wpE (defs₀ (F := F)) 𝒱₀ (c : Thread nD τ) none) Set.univ (.op (.store qM (Rect.unit (s := S4096x512) ![0, 0] S4096x512.size inb) w Finset.univ hx hm) k) Q) := by
  have h := wp_store 𝒱₀ (c : Thread nD τ) none Set.univ (defs := defs₀ (F := F)) (Γ := .empty) (m := qM) (r := (Rect.unit (s := S4096x512) ![0, 0] S4096x512.size inb))
    (hx := hx) (hm := hm) (w := w) (Mk := Finset.univ) (k := k) (Q := Q) (S := Finset.univ) (f := f) (Finset.subset_univ _)
  have e : (qM.access (Rect.unit (s := S4096x512) ![0, 0] S4096x512.size inb)).write (Elt F) f w Finset.univ = w := Memref.write_access_unit_zero_univ (Elt F) cc0_scratch0 off2_zero inb f w
  rw [e] at h
  exact h

/-- Some contents of the activations' VMEM buffer. -/
def xsAny (c : Dev nD) : sProp 𝕄 := iprop(∃ f : Buf (Elt F) ((c : Thread nD τ).loc cc0_scratch3), ((c : Thread nD τ).loc cc0_scratch3) ↦{fullShare} f)

/-! ## Up to the barrier -/

abbrev part2 := k0_part2 (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7

/-- What the part before the barrier needs. -/
def pre2 (c : Dev nD) : sProp 𝕄 :=
  iprop(records m K ∗ levAts L lv ∗ ow c (O₀ c) ∗ (∃ q : PosShare TreeShare, ((c : Thread nD τ).loc main_arg0) ↦{q} xIn m c) ∗ wAny m c ∗ xsAny c ∗ (∃ f, qAll c f)
    ∗ vAny c (sl 0) ∗ vAny c (sl 1) ∗ wTok c 0 ∗ wTok c 1 ∗ dutyTok ER (xCell c) 0 0 ∗ atPos ER (xCell c) 0 ∅ 0)
/-- What it leaves: the activations cast, two copies of the weights in flight. -/
def post2 (c : Dev nD) : sProp 𝕄 :=
  iprop(ow c (O₀ c) ∗ wAny m c ∗ xsAny c ∗ qAll c (xq m c) ∗ flight c 0 ∗ flight c 1 ∗ semVal (xCell c) 0)

theorem wp_part2 (c : Dev nD) {α : Type} {Q : α → sProp 𝕄} {kk : _ → Prog (TpuEff nD τ sig (Elt F) Λ₀ .tc) α} :
    pre2 m K c ⊢ iprop((∀ v2 : BitVec 32, post2 m c -∗ wp frame (wpE (defs₀ (F := F)) 𝒱₀ (c : Thread nD τ) none) Set.univ (kk ⟨c, v2, barM, 1#32⟩) Q) -∗ wp frame (wpE (defs₀ (F := F)) 𝒱₀ (c : Thread nD τ) none) Set.univ (part2 >>= kk) Q) := by
  unfold part2
  rw [k0_part2_eq_skeleton]
  unfold k0_part2_skel
  simp only [Prog.lift, Prog.bind_op, Prog.bind_ret, Prog.pure_eq_ret, wp_deviceId]
  unfold pre2
  iintro ⟨#HR, #HL, HO, ⟨%q, HX⟩, HW, HXs, ⟨%fq, HQ⟩, HV0, HV1, HT0, HT1, HTx, HAx⟩ Hk
  unfold xsAny
  icases HXs with ⟨%fx, HXs⟩
  iapply (wp_next m K c 0 (by decide) _ (wS_of 0 rfl _) (wB_of (dn c 0) ((k0_off1_eq c 0).trans ?_) _) (vB_of 0 rfl _)) $$ [HW HV0 HT0]
  · show _ = ![512 * ((c.val + 8 - 0) % 8), 0]
    rfl
  · isplitr; · iexact HR
    isplitl [HW]; · iexact HW
    isplitl [HV0]; · iexact HV0
    isplitl [HT0]; · iexact HT0
    iapply (reach_get m K (c, wI (sl 0))) $$ HR
  iintro ⟨HF0, HW⟩
  iapply (wp_next m K c 1 (by decide) _ (wS_of 1 rfl _) (wB_of (dn c 1) ((k0_off1_eq c 1).trans ?_) _) (vB_of 1 rfl _)) $$ [HW HV1 HT1]
  · show _ = ![512 * ((c.val + 8 - 1) % 8), 0]
    rfl
  · isplitr; · iexact HR
    isplitl [HW]; · iexact HW
    isplitl [HV1]; · iexact HV1
    isplitl [HT1]; · iexact HT1
    iapply (reach_get m K (c, wI (sl 1))) $$ HR
  iintro ⟨HF1, HW⟩
  iapply (wp_copy_x m K c _ xS_eq q fx) $$ [HX HXs HTx]
  · isplitr; · iapply (inv_get m K (c, xI)) $$ HR
    isplitl [HX]; · iexact HX
    isplitl [HXs]; · iexact HXs
    isplitl [HTx]; · iexact HTx
    iapply (reach_get m K (c, xI)) $$ HR
  iintro HC
  iapply (wp_wait_cell m K c xI _ (congrArg SemLoc.dma xS_eq) NX NX_xsM 0 (expect_x m c) (O₀ c)) $$ [HO HC HAx]
  · isplitr; · iapply (inv_get m K (c, xI)) $$ HR
    isplitl [HC]; · iexact HC
    isplitl [HO]; · iexact HO
    isplitr; · iapply (mayWait_low c (csem xI) (by rfl) (O₀ c) (Or.inl rfl)) $$ HL
    iexact HAx
  iintro ⟨HO, HAx, -, HP⟩
  ihave HXs := (Entails.of_eq (rest_x m c)) $$ HP
  imod (close m K (c, xI) (0 + 1) (later_x m c)) $$ [HAx] with HZ
  · isplitr; · iexact HR
    iexact HAx
  unfold xPay
  iapply (wp_load_xs c _) $$ HXs
  iintro HXs
  iapply (wp_load_qa c _) $$ HQ
  iintro HQ
  iapply (wp_store_qa c _) $$ HQ
  iintro HQ
  iapply Hk
  unfold post2 xsAny
  isplitl [HO]; · iexact HO
  isplitl [HW]; · iexact HW
  isplitl [HXs]; · iexists _; iexact HXs
  isplitl [HQ]; · iexact HQ
  isplitl [HF0]; · iexact HF0
  isplitl [HF1]; · iexact HF1
  iexact HZ

end Cert.A2A

end
-- ==== Proof.Part3.lean ====
/- From the barrier to the accumulated sum. -/
module

public import proofs.«01_k».proof.Proof.Part2

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Fin 17) → ℕ)

/-! ## The scales -/

/-- The first scale's staging buffer at `f`. -/
def s2Pts (c : Dev nD) (f : Buf (Elt F) ((c : Thread nD τ).loc cc0_stg0_0)) : sProp 𝕄 := ((c : Thread nD τ).loc cc0_stg0_0) ↦{fullShare} f
/-- The second scale's staging buffer at `f`. -/
def s3Pts (c : Dev nD) (f : Buf (Elt F) ((c : Thread nD τ).loc cc0_stg1_0)) : sProp 𝕄 := ((c : Thread nD τ).loc cc0_stg1_0) ↦{fullShare} f
/-- The only place of a one-element buffer. -/
abbrev i0 : S1.Idx := Shape.Idx.first (by decide)
theorem off1_zero : (![0] : Fin 1 → ℕ) = fun _ => 0 := by funext a; fin_cases a; rfl

/-- Loading a scale from scalar memory. -/
theorem wp_load_s2 {α : Type} {Q : α → sProp 𝕄} (c : Dev nD) (f : Buf (Elt F) ((c : Thread nD τ).loc cc0_stg0_0)) {inb} {hl}
    {k : Vec F S1 .f32 → Prog (TpuEff nD τ sig (Elt F) Λ₀ .tc) α} :
    s2Pts c f ⊢ iprop((s2Pts c f -∗ wp frame (wpE (defs₀ (F := F)) 𝒱₀ (c : Thread nD τ) none) Set.univ (k f) Q) -∗ wp frame (wpE (defs₀ (F := F)) 𝒱₀ (c : Thread nD τ) none) Set.univ (.op (.load s2M (Rect.unit (s := S1) ![0] S1.size inb).toLoadRect hl) k) Q) := by
  unfold s2Pts
  have h := wp_load 𝒱₀ (c : Thread nD τ) none Set.univ (defs := defs₀ (F := F)) (Γ := .empty) (m := s2M) (r := (Rect.unit (s := S1) ![0] S1.size inb).toLoadRect)
    (hl := hl) (k := k) (Q := Q) (S := Finset.univ) (q := fullShare) (f := f) (Finset.subset_univ _)
  have e : s2M.view.readAt (Elt F) (Rect.unit (s := S1) ![0] S1.size inb).toLoadRect f = f := Memref.readAt_unit_zero (Elt F) cc0_stg0_0 off1_zero inb f
  rw [e] at h
  exact h

/-- Loading a scale from scalar memory. -/
theorem wp_load_s3 {α : Type} {Q : α → sProp 𝕄} (c : Dev nD) (f : Buf (Elt F) ((c : Thread nD τ).loc cc0_stg1_0)) {inb} {hl}
    {k : Vec F S1 .f32 → Prog (TpuEff nD τ sig (Elt F) Λ₀ .tc) α} :
    s3Pts c f ⊢ iprop((s3Pts c f -∗ wp frame (wpE (defs₀ (F := F)) 𝒱₀ (c : Thread nD τ) none) Set.univ (k f) Q) -∗ wp frame (wpE (defs₀ (F := F)) 𝒱₀ (c : Thread nD τ) none) Set.univ (.op (.load s3M (Rect.unit (s := S1) ![0] S1.size inb).toLoadRect hl) k) Q) := by
  unfold s3Pts
  have h := wp_load 𝒱₀ (c : Thread nD τ) none Set.univ (defs := defs₀ (F := F)) (Γ := .empty) (m := s3M) (r := (Rect.unit (s := S1) ![0] S1.size inb).toLoadRect)
    (hl := hl) (k := k) (Q := Q) (S := Finset.univ) (q := fullShare) (f := f) (Finset.subset_univ _)
  have e : s3M.view.readAt (Elt F) (Rect.unit (s := S1) ![0] S1.size inb).toLoadRect f = f := Memref.readAt_unit_zero (Elt F) cc0_stg1_0 off1_zero inb f
  rw [e] at h
  exact h

/-! ## The part -/

abbrev part3 (c : Dev nD) (v2 w : BitVec 32) := k0_part3 (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7 c v2 barM w

/-- What each barrier signal needs: its duty and the landing slot it frees. -/
def barKit (c : Dev nD) (j : Fin 7) : sProp 𝕄 := iprop(dutyTok ER (barCell (up c j)) 0 (rev j) ∗ cAny c (rev j))
def sendTok (c : Dev nD) (j : Fin 7) : sProp 𝕄 := dutyTok ER (sendCell c j) 0 0
def recvTok (c : Dev nD) (j : Fin 7) : sProp 𝕄 := dutyTok ER (recvCell (up c j) j) 0 0

/-- What the part from the barrier on needs. -/
def pre3 (c : Dev nD) (f2 : Buf (Elt F) ((c : Thread nD τ).loc cc0_stg0_0)) (f3 : Buf (Elt F) ((c : Thread nD τ).loc cc0_stg1_0)) : sProp 𝕄 :=
  iprop(records m K ∗ levAts L lv ∗ ow c (O₀ c) ∗ bigSep Finset.univ (barKit c) ∗ cred (tallyAt (barCell c) () 7) ∗ atPos ER (barCell c) 0 ∅ 0
    ∗ qAll c (xq m c) ∗ bigSep Finset.univ (sendTok c) ∗ bigSep Finset.univ (recvTok c) ∗ s2Pts c f2 ∗ s3Pts c f3 ∗ flight c 0 ∗ flight c 1
    ∗ atPos ER (wCell c 0) 0 ∅ 0 ∗ atPos ER (wCell c 1) 0 ∅ 0 ∗ (∃ f, oPts c f) ∗ wAny m c ∗ bigSep (fr 8 2) (wTok c) ∗ bigSep Finset.univ (recvWait c))
/-- What it leaves: the sum of the eight products, the sends still to be waited for. -/
def post3 (c : Dev nD) (f2 : Buf (Elt F) ((c : Thread nD τ).loc cc0_stg0_0)) (f3 : Buf (Elt F) ((c : Thread nD τ).loc cc0_stg1_0)) : sProp 𝕄 :=
  iprop(ow c 0 ∗ semVal (barCell c) 0 ∗ qPts m c c ∗ bigSep Finset.univ (sendCred c) ∗ s2Pts c f2 ∗ s3Pts c f3 ∗ oPts c (acc m c 7)
    ∗ vAny c 0 ∗ vAny c 1 ∗ semVal (wCell c 0) 0 ∗ semVal (wCell c 1) 0 ∗ bigSep Finset.univ (recvDone c) ∗ wAny m c)

theorem Orecv_end (c : Dev nD) : Orecv c 7 = 0 := by unfold Orecv; rw [fr_top]; exact Finset.sum_empty
theorem Obar_end (c : Dev nD) : Obar c 7 = 0 := by unfold Obar; rw [fr_top]; exact Finset.sum_empty

/-- The rows, the slots and the tokens of the seven sends, put together send by send. -/
theorem kits (c : Dev nD) :
    iprop((bigSep Finset.univ fun k : Fin 7 => qPts m c (up c k)) ∗ (bigSep Finset.univ fun k : Fin 7 => cAny (up c k) k)
      ∗ bigSep Finset.univ (sendTok c) ∗ bigSep Finset.univ (recvTok c)) ⊢ bigSep Finset.univ fun j : Fin 7 => sendKit m c j := by
  unfold sendKit
  rw [bigSep_sep', bigSep_sep', bigSep_sep']
  exact fun _ h => h

theorem wp_part3 (c : Dev nD) (v2 w : BitVec 32) (f2 : Buf (Elt F) ((c : Thread nD τ).loc cc0_stg0_0)) (f3 : Buf (Elt F) ((c : Thread nD τ).loc cc0_stg1_0))
    {α : Type} {Q : α → sProp 𝕄} {kk : F .f32 → Prog (TpuEff nD τ sig (Elt F) Λ₀ .tc) α} :
    pre3 m K c f2 f3 ⊢ iprop((post3 m c f2 f3 -∗ wp frame (wpE (defs₀ (F := F)) 𝒱₀ (c : Thread nD τ) none) Set.univ (kk (k0_pay5 (f2 i0) (f3 i0))) Q) -∗ wp frame (wpE (defs₀ (F := F)) 𝒱₀ (c : Thread nD τ) none) Set.univ (part3 c v2 w >>= kk) Q) := by
  unfold part3
  rw [k0_part3_eq_skeleton]
  unfold k0_part3_skel
  simp only [bind_assoc, semWaitWord, smemLoad, smemLoadElt, Prog.lift, Prog.bind_op, Prog.bind_ret, Prog.pure_eq_ret]
  unfold pre3
  rw [q_split, flight_lt c (show 0 < 8 by decide)]
  iintro ⟨#HR, #HL, HO, HB, HCb, HAb, ⟨HQc, HQs⟩, HTs, HTr, H2, H3, HF0, HF1, HA0, HA1, ⟨%fo, Ho⟩, HW, HTw, HRw⟩ Hk
  iapply (loop1 m K c v2 w) $$ [HO HB]
  · unfold I1
    rw [fr_zero]
    isplitr; · iexact HR
    isplitl [HO]; · iexact HO
    iexact HB
  unfold I1
  rw [Obar_end, add_zero]
  iintro ⟨-, HO, -⟩
  iapply (wp_wait_bar m K c _ (by decide)) $$ [HCb HO HAb]
  · isplitr; · iexact HR
    isplitr; · iexact HL
    isplitl [HCb]; · iexact HCb
    isplitl [HO]; · iexact HO
    iexact HAb
  iintro ⟨HO, HAb, HCs⟩
  imod (close m K (c, none) 1 (later_bar m c)) $$ [HAb] with HZb
  · isplitr; · iexact HR
    iexact HAb
  iapply (loop2 m K c v2 w) $$ [HO HQs HCs HTs HTr]
  · unfold I2
    rw [fr_zero, bl_zero]
    isplitr; · iexact HR
    isplitl [HO]; · iexact HO
    isplitl
    · iapply (kits m c) $$ [HQs HCs HTs HTr]
      isplitl [HQs]; · iexact HQs
      isplitl [HCs]; · iexact HCs
      isplitl [HTs]; · iexact HTs
      iexact HTr
    rw [bigSep_empty]; iempintro
  unfold I2
  rw [Orecv_end, bl_top]
  iintro ⟨-, HO, -, HSc⟩
  iapply (wp_load_s2 c f2) $$ H2
  iintro H2
  iapply (wp_load_s3 c f3) $$ H3
  iintro H3
  iapply (wp_wait_cell m K c (wI 0) _ (congrArg SemLoc.dma (wS_of 0 rfl _))
    (dst := (vM.slice (Rect.unit (s := S2x512x8192) ![0, 0, 0] S1x512x8192.size inb_S2x512x8192_S1x512x8192_0_0_0) (fun _ => rfl)).squeeze S512x8192 squeezes_S1x512x8192_S512x8192) NW (NW_vB 0) 0
    (expect_w m c 0 _ (by decide)) 0) $$ [HO HF0 HA0]
  · isplitr; · iapply (inv_get m K (c, wI 0)) $$ HR
    isplitl [HF0]; · iexact HF0
    isplitl [HO]; · iexact HO
    isplitr; · rw [MayWait_zero]; iempintro
    iexact HA0
  iintro ⟨HO, HA0, Hr0, HP⟩
  ihave HP := (Entails.of_eq (rest_w m c 0 _ (by decide))) $$ HP
  unfold wPay
  icases HP with ⟨%fw, %hfw, HV⟩
  iapply (wp_load_q m c c (k0_off5_eq c)) $$ HQc
  iintro HQc
  iapply (wp_load_v c 0 fw rfl) $$ HV
  iintro HV
  iapply (wp_load_o c _) $$ Ho
  iintro Ho
  iapply (wp_store_o c _) $$ Ho
  iintro Ho
  iapply (loop3 m K c v2 w) $$ [HO HW Ho HV HF1 HA0 Hr0 HA1 HTw HRw]
  · unfold I3
    rw [fr_zero, bl_zero, bigSep_empty]
    isplitr; · iexact HR
    isplitl [HO]; · iexact HO
    isplitl [HW]; · iexact HW
    isplitl [Ho]; · rw [pay6_eq, ← vB_read, hfw]; iexact Ho
    isplitl [HV]; · unfold vAny; iexists fw; iexact HV
    isplitl [HF1]; · iexact HF1
    isplitl [HA0 Hr0]
    · unfold wAt
      isplitl [HA0]; · iexact HA0
      iexact Hr0
    isplitl [HA1]; · iexact HA1
    isplitl [HTw]; · iexact HTw
    isplitl [HRw]; · iexact HRw
    iempintro
  unfold I3 wAt
  rw [bl_top]
  rw [flight_ge c (show 8 ≤ 7 + 1 by decide)]
  iintro ⟨-, HO, HW, Ho, HV1, HV0, ⟨HA1, -⟩, HA0, -, -, HRd⟩
  imod (close m K (c, wI 0) 4 (later_w m c 0)) $$ [HA0] with HZ0
  · isplitr; · iexact HR
    iexact HA0
  imod (close m K (c, wI 1) 4 (later_w m c 1)) $$ [HA1] with HZ1
  · isplitr; · iexact HR
    iexact HA1
  iapply Hk
  unfold post3
  isplitl [HO]; · iexact HO
  isplitl [HZb]; · iexact HZb
  isplitl [HQc]; · iexact HQc
  isplitl [HSc]; · iexact HSc
  isplitl [H2]; · iexact H2
  isplitl [H3]; · iexact H3
  isplitl [Ho]; · iexact Ho
  isplitl [HV0]; · iexact HV0
  isplitl [HV1]; · iexact HV1
  isplitl [HZ0]; · iexact HZ0
  isplitl [HZ1]; · iexact HZ1
  isplitl [HRd]; · iexact HRd
  iexact HW

end Cert.A2A

end
-- ==== Proof.Body.lean ====
/- The whole body of the kernel, from what a launch gives a device to what it leaves. -/
module

public import proofs.«01_k».proof.Proof.Part3

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Fin 17) → ℕ)

/-! ## A conjunction over a device's cells -/

theorem cells_univ : (Finset.univ : Finset (Option (Fin 17))) = insert none (insert (wI 0) (insert (wI 1) (insert xI
    (Finset.univ.image sendI ∪ Finset.univ.image recvI)))) := by decide
theorem sendI_inj : Function.Injective sendI := by decide
theorem recvI_inj : Function.Injective recvI := by decide

/-- Barrier, weight copies, activation copy, sends, receives. -/
theorem bigSep_cells {M : Type} [URA M] (Φ : Option (Fin 17) → sProp M) :
    bigSep Finset.univ Φ = iprop(Φ none ∗ Φ (wI 0) ∗ Φ (wI 1) ∗ Φ xI ∗ (bigSep Finset.univ fun k : Fin 7 => Φ (sendI k)) ∗ bigSep Finset.univ fun k : Fin 7 => Φ (recvI k)) := by
  have es : Finset.univ.image sendI = Finset.univ.map ⟨sendI, sendI_inj⟩ := by rw [Finset.map_eq_image]; rfl
  have er : Finset.univ.image recvI = Finset.univ.map ⟨recvI, recvI_inj⟩ := by rw [Finset.map_eq_image]; rfl
  rw [cells_univ, bigSep_insert (by decide), bigSep_insert (by decide), bigSep_insert (by decide), bigSep_insert (by decide), bigSep_union (by decide), es, er,
    bigSep_map, bigSep_map]
  rfl

/-! ## What a device starts from, and what it leaves -/

def barTok (c : Dev nD) (j : Fin 7) : sProp 𝕄 := dutyTok ER (barCell (up c j)) 0 (rev j)
/-- The duties device `c` performs. -/
def payToks (c : Dev nD) : sProp 𝕄 :=
  iprop(bigSep Finset.univ (barTok c) ∗ bigSep Finset.univ (sendTok c) ∗ bigSep Finset.univ (recvTok c) ∗ bigSep Finset.univ (wTok c) ∗ dutyTok ER (xCell c) 0 0)
def atAll (c : Dev nD) : sProp 𝕄 := bigSep Finset.univ fun x : Option (Fin 17) => atPos ER (kcell (c, x)) 0 ∅ 0
def ghost (c : Dev nD) : sProp 𝕄 := iprop(records m K ∗ atAll c ∗ payToks c)
def xAny (c : Dev nD) : sProp 𝕄 := iprop(∃ q : PosShare TreeShare, ((c : Thread nD τ).loc main_arg0) ↦{q} xIn m c)
def recvCred (c : Dev nD) (j : Fin 7) : sProp 𝕄 := cred (tallyAt (recvCell c j) () NC)
/-- Credits, levels and arrays at hand when the body starts. -/
def given (c : Dev nD) : sProp 𝕄 :=
  iprop(cred (tallyAt (barCell c) () 7) ∗ bigSep Finset.univ (recvCred c) ∗ levAts L lv ∗ xAny m c ∗ wAny m c)
def start (c : Dev nD) : sProp 𝕄 := iprop((∃ K, ghost m K c) ∗ given m c)
/-- The kernel's VMEM buffers at some contents. -/
def bufs (c : Dev nD) : sProp 𝕄 := iprop((∃ f, qAll (F := F) c f) ∗ (∃ f, cAll (F := F) c f) ∗ (∃ f, vAll (F := F) c f) ∗ xsAny c)
def zeros (c : Dev nD) : sProp 𝕄 := bigSep Finset.univ fun x : Option (Fin 17) => semVal (kcell (c, x)) 0

/-- The staged first scale of device `c`. -/
def sc2 (c : Dev nD) : (cc0_stg0_0 : Ref sig .tc).ty.Contents (Elt F) := (win0_0.blk (0 : Fin 1)).view.read (Elt F) (m ((c : Thread nD τ).loc main_arg2))
/-- The staged second scale of device `c`. -/
def sc3 (c : Dev nD) : (cc0_stg1_0 : Ref sig .tc).ty.Contents (Elt F) := (win0_1.blk (0 : Fin 1)).view.read (Elt F) (m ((c : Thread nD τ).loc main_arg3))
/-- The result block of device `c`. -/
def outAt (c : Dev nD) : (cc0_stg2_0 : Ref sig .tc).ty.Contents (Elt F) := k0_pay1 (k0_pay5 (sc2 m c i0) (sc3 m c i0)) (acc m c 7)

theorem bar_kits (c : Dev nD) : iprop(bigSep Finset.univ (barTok (F := F) c) ∗ bigSep Finset.univ fun k : Fin 7 => cAny c k) ⊢ bigSep Finset.univ (barKit c) := by
  rw [bigSep_univ_equiv flip (fun k : Fin 7 => cAny (F := F) c k), ← bigSep_sep']
  exact fun _ h => h
theorem recv_kits (c : Dev nD) : iprop(bigSep Finset.univ (recvCred (F := F) c) ∗ bigSep Finset.univ fun k : Fin 7 => atPos ER (recvCell c k) 0 ∅ 0) ⊢ bigSep Finset.univ (recvWait c) := by
  rw [← bigSep_sep']
  exact fun _ h => h
theorem send_kits (c : Dev nD) : iprop(bigSep Finset.univ (sendCred (F := F) c) ∗ bigSep Finset.univ fun k : Fin 7 => atPos ER (sendCell c k) 0 ∅ 0) ⊢ bigSep Finset.univ (sendWait c) := by
  rw [← bigSep_sep']
  exact fun _ h => h
theorem recv_done (c : Dev nD) : bigSep Finset.univ (recvDone (F := F) c) ⊢ iprop((bigSep Finset.univ fun k : Fin 7 => cAny c k) ∗ bigSep Finset.univ fun k : Fin 7 => semVal (recvCell c k) 0) := by
  rw [← bigSep_sep']
  exact fun _ h => h
theorem send_done (c : Dev nD) : bigSep Finset.univ (sendDone m c) ⊢ iprop((bigSep Finset.univ fun k : Fin 7 => qPts m c (up c k)) ∗ bigSep Finset.univ fun k : Fin 7 => semVal (sendCell c k) 0) := by
  rw [← bigSep_sep']
  exact fun _ h => h
theorem w_toks (c : Dev nD) : bigSep Finset.univ (wTok (F := F) c) = iprop(wTok c 0 ∗ wTok c 1 ∗ bigSep (fr 8 2) (wTok c)) := by
  rw [← fr_zero, fr_split (show 0 < 8 by decide), fr_split (show 0 + 1 < 8 by decide)]
  rfl

/-! ## The body -/

def pre (c : Dev nD) (f2 : Buf (Elt F) ((c : Thread nD τ).loc cc0_stg0_0)) (f3 : Buf (Elt F) ((c : Thread nD τ).loc cc0_stg1_0)) : sProp 𝕄 :=
  iprop(start m c ∗ bufs c ∗ ow c (O₀ c) ∗ s2Pts c f2 ∗ s3Pts c f3 ∗ ∃ f, oPts c f)
def post (c : Dev nD) (f2 : Buf (Elt F) ((c : Thread nD τ).loc cc0_stg0_0)) (f3 : Buf (Elt F) ((c : Thread nD τ).loc cc0_stg1_0)) : sProp 𝕄 :=
  iprop(bufs c ∗ zeros c ∗ ow c 0 ∗ s2Pts c f2 ∗ s3Pts c f3 ∗ oPts c (k0_pay1 (k0_pay5 (f2 i0) (f3 i0)) (acc m c 7)))

theorem wp_body (c : Dev nD) (f2 : Buf (Elt F) ((c : Thread nD τ).loc cc0_stg0_0)) (f3 : Buf (Elt F) ((c : Thread nD τ).loc cc0_stg1_0)) :
    pre m c f2 f3 ⊢ wp frame (wpE (defs₀ (F := F)) 𝒱₀ (c : Thread nD τ) none) Set.univ (cc0_body (F := F) xM (Memref.isWhole_whole _) wM (Memref.isWhole_whole _) s2M (Memref.isWhole_whole _) s3M (Memref.isWhole_whole _)
    oM (Memref.isWhole_whole _) qM (Memref.isWhole_whole _) cM (Memref.isWhole_whole _) vM (Memref.isWhole_whole _) xsM (Memref.isWhole_whole _)
    cc0_scratch4 cc0_scratch5 cc0_scratch6 cc0_scratch7) (fun _ => post m c f2 f3) := by
  rw [cc0_body_eq_skeleton]
  unfold cc0_body_skel
  unfold pre start ghost given bufs atAll payToks
  simp only [bigSep_cells, w_toks]
  iintro ⟨⟨⟨%K, #HR, ⟨HAb, HA0, HA1, HAx, HAs, HAr⟩, HTb, HTs, HTr, ⟨HT0, HT1, HTw⟩, HTx⟩, HCb, HCr, #HL, HX, HW⟩, ⟨HQ, HC, HV, HXs⟩, HO, H2, H3, Ho⟩
  ihave HV := (v_split (F := F) c) $$ HV
  icases HV with ⟨HV0, HV1⟩
  ihave HC := (c_split (F := F) c) $$ HC
  iapply (wp_part2 m K c) $$ [HO HX HW HXs HQ HV0 HV1 HT0 HT1 HTx HAx]
  · unfold pre2
    isplitr; · iexact HR
    isplitr; · iexact HL
    isplitl [HO]; · iexact HO
    isplitl [HX]; · unfold xAny; iexact HX
    isplitl [HW]; · iexact HW
    isplitl [HXs]; · iexact HXs
    isplitl [HQ]; · iexact HQ
    isplitl [HV0]; · iexact HV0
    isplitl [HV1]; · iexact HV1
    isplitl [HT0]; · iexact HT0
    isplitl [HT1]; · iexact HT1
    isplitl [HTx]; · iexact HTx
    iexact HAx
  iintro %v2 H
  unfold post2
  icases H with ⟨HO, HW, HXs, HQ, HF0, HF1, HZx⟩
  dsimp only
  iapply (wp_part3 m K c v2 _ f2 f3) $$ [HO HTb HC HCb HAb HQ HTs HTr H2 H3 HF0 HF1 HA0 HA1 Ho HW HTw HCr HAr]
  · unfold pre3
    isplitr; · iexact HR
    isplitr; · iexact HL
    isplitl [HO]; · iexact HO
    isplitl [HTb HC]
    · iapply (bar_kits (F := F) c)
      isplitl [HTb]; · iexact HTb
      iexact HC
    isplitl [HCb]; · iexact HCb
    isplitl [HAb]; · iexact HAb
    isplitl [HQ]; · iexact HQ
    isplitl [HTs]; · iexact HTs
    isplitl [HTr]; · iexact HTr
    isplitl [H2]; · iexact H2
    isplitl [H3]; · iexact H3
    isplitl [HF0]; · iexact HF0
    isplitl [HF1]; · iexact HF1
    isplitl [HA0]; · iexact HA0
    isplitl [HA1]; · iexact HA1
    isplitl [Ho]; · iexact Ho
    isplitl [HW]; · iexact HW
    isplitl [HTw]; · iexact HTw
    iapply (recv_kits (F := F) c)
    isplitl [HCr]; · iexact HCr
    iexact HAr
  unfold post3
  iintro ⟨HO, HZb, HQc, HCs, H2, H3, Ho, HV0, HV1, HZ0, HZ1, HRd, HW⟩
  simp only [Prog.lift, Prog.bind_op, Prog.bind_ret, Prog.pure_eq_ret]
  iapply (wp_load_o c _) $$ Ho
  iintro Ho
  iapply (wp_load_o c _) $$ Ho
  iintro Ho
  iapply (wp_store_o c _) $$ Ho
  iintro Ho
  iapply (loop4 m K c) $$ [HO HCs HAs]
  · unfold I4
    rw [fr_zero, bl_zero, bigSep_empty]
    isplitr; · iexact HR
    isplitl [HO]; · iexact HO
    isplitl
    · iapply (send_kits (F := F) c)
      isplitl [HCs]; · iexact HCs
      iexact HAs
    iempintro
  unfold I4
  rw [bl_top]
  iintro ⟨-, HO, -, HSd⟩
  rw [wp_ret]; imodintro
  ihave HSd := (send_done m c) $$ HSd
  icases HSd with ⟨HQs, HZs⟩
  ihave HRd := (recv_done (F := F) c) $$ HRd
  icases HRd with ⟨HC, HZr⟩
  ihave HC := (c_join m c) $$ HC
  ihave HV := (v_join m c) $$ [HV0 HV1]
  · isplitl [HV0]; · iexact HV0
    iexact HV1
  ihave HQ := (Entails.of_eq (q_split m c).symm) $$ [HQc HQs]
  · isplitl [HQc]; · iexact HQc
    iexact HQs
  unfold post bufs zeros
  rw [bigSep_cells]
  isplitl [HQ HC HV HXs]
  · isplitl [HQ]; · iexists _; iexact HQ
    isplitl [HC]; · iexact HC
    isplitl [HV]; · iexact HV
    iexact HXs
  isplitl [HZb HZ0 HZ1 HZx HZs HZr]
  · isplitl [HZb]; · iexact HZb
    isplitl [HZ0]; · iexact HZ0
    isplitl [HZ1]; · iexact HZ1
    isplitl [HZx]; · iexact HZx
    isplitl [HZs]; · iexact HZs
    iexact HZr
  isplitl [HO]; · iexact HO
  isplitl [H2]; · iexact H2
  isplitl [H3]; · iexact H3
  iexact Ho

end Cert.A2A

end
-- ==== Proof.Obl.lean ====
/- The body as the pipeline of one point sees it. -/
module

public import proofs.«01_k».proof.Proof.Body

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-- What the device has before the point, with its buffers, and after it. -/
def Φ₀ (c : Dev nD) : sProp 𝕄 := iprop(start m c ∗ bufs c)
def Φ₁ (c : Dev nD) : sProp 𝕄 := iprop(bufs c ∗ zeros c)

/-- The pipeline's data: the arrays at launch, what the staging buffers hold after the point, what is owed. -/
def dats (_ : Fin 1) (c : Dev nD) : Dat τ (Elt F) Unit ℕ UU ℕ cfg0 c where
  A w := m ((cfg0.win w).arr.view.loc (c : Thread nD τ))
  after w _ := match w with
    | ⟨0, _⟩ => sc2 m c
    | ⟨1, _⟩ => sc3 m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

abbrev tp : Fin cfg0.N := t0_0

def oblPre (c : Dev nD) : sProp 𝕄 :=
  iprop(Φ₀ m c ∗ (dats m 0 c).owesAt () tp.castSucc
    ∗ (∃ d, stg c cc0_stg0_0 ((dats m 0 c).before (0 : Fin 3) tp d))
    ∗ (∃ d, stg c cc0_stg1_0 ((dats m 0 c).before (1 : Fin 3) tp d))
    ∗ (∃ d, stg c cc0_stg2_0 ((dats m 0 c).before (2 : Fin 3) tp d)))
def oblPost (c : Dev nD) : sProp 𝕄 :=
  iprop(Φ₁ c ∗ (dats m 0 c).owesAt () tp.succ ∗ stg c cc0_stg0_0 (sc2 m c) ∗ stg c cc0_stg1_0 (sc3 m c) ∗ stg c cc0_stg2_0 (outAt m c))

theorem obl (c : Dev nD) : oblPre m c ⊢ wp frame (wpE (defs₀ (F := F)) 𝒱₀ (c : Thread nD τ) none) Set.univ (cc0_body (F := F) xM (Memref.isWhole_whole _) wM (Memref.isWhole_whole _) s2M (Memref.isWhole_whole _) s3M (Memref.isWhole_whole _)
      oM (Memref.isWhole_whole _) qM (Memref.isWhole_whole _) cM (Memref.isWhole_whole _) vM (Memref.isWhole_whole _) xsM (Memref.isWhole_whole _)
      cc0_scratch4 cc0_scratch5 cc0_scratch6 cc0_scratch7) (fun _ => oblPost m c) := by
  unfold oblPre Φ₀ Dat.owesAt Pipeline.owesWithin
  iintro ⟨⟨HS, HB⟩, ⟨%W, %hW, HO⟩, ⟨%d2, %g2, %h2, H2⟩, ⟨%d3, %g3, %h3, H3⟩, ⟨%d4, %g4, %h4, H4⟩⟩
  have e2 : g2 = sc2 m c := by rw [h2]; unfold Dat.before; rw [if_pos (fetch0_0 tp)]; rfl
  have e3 : g3 = sc3 m c := by rw [h3]; unfold Dat.before; rw [if_pos (fetch0_1 tp)]; rfl
  subst e2 e3
  iapply (wp_mono frame _ _ (fun _ => show post m c (sc2 m c) (sc3 m c) ⊢ oblPost m c from ?_))
  · unfold post oblPost Φ₁ Dat.owesAt Pipeline.owesWithin ow s2Pts s3Pts oPts
    iintro ⟨HB, HZ, ⟨%W', HO⟩, H2, H3, H4⟩
    isplitl [HB HZ]
    · isplitl [HB]; · iexact HB
      iexact HZ
    isplitl [HO]
    · iexists W'
      isplitr; · ipureintro; exact fun _ _ => Or.inl trivial
      iexact HO
    isplitl [H2]
    · iexists _; isplitr; · ipureintro; rfl
      iexact H2
    isplitl [H3]
    · iexists _; isplitr; · ipureintro; rfl
      iexact H3
    iexists _; isplitr; · ipureintro; rfl
    iexact H4
  iapply (wp_body m c (sc2 m c) (sc3 m c))
  unfold pre ow s2Pts s3Pts oPts
  isplitl [HS]; · iexact HS
  isplitl [HB]; · iexact HB
  isplitl [HO]; · iexists W; iexact HO
  isplitl [H2]; · iexact H2
  isplitl [H3]; · iexact H3
  iexists g4; iexact H4

set_option maxRecDepth 4000 in
/-- The body meets its obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_stg]
  exact obl m c

end Cert.A2A

end
-- ==== Proof.Deal.lean ====
/- What the launch deals every device: its cells' rounds, the duty tokens sent to those who pay them, and the credits. -/
module

public import proofs.«01_k».proof.Proof.Obl

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

local notation "own0" => Pipeline.ownSems0 (Ix := Unit) (Name := ℕ) (U := UU) (Lvl := ℕ) (Val := Elt F) (τ := τ) osem

/-! ## Cells and tokens as minted -/

theorem csem_inj : Function.Injective csem := by decide
theorem kcell_inj : Function.Injective (kcell : Dev nD × Option (Fin 17) → GSem nD τ sig) := by
  rintro ⟨c, x⟩ ⟨c', x'⟩ h
  have hc : c = c' := congrArg (fun g : GSem nD τ sig => g.1.1) h
  have hx : x = x' := csem_inj (congrArg Prod.snd h)
  rw [hc, hx]
theorem kcell_eq_iff {p q : Dev nD × Option (Fin 17)} : kcell p = kcell q ↔ p = q := ⟨fun h => kcell_inj h, fun h => h ▸ rfl⟩

def allCells : Finset (GSem nD τ sig) := Finset.univ.map ⟨kcell, kcell_inj⟩

/-- A device's duties: barrier, send, receive, weight copies, activation copy. -/
abbrev TokIx : Type := (Fin 7 ⊕ Fin 7) ⊕ (Fin 7 ⊕ (Fin 8 ⊕ Unit))
def key : TokIx → Option (Fin 17) × ℕ × Fin 7
  | .inl (.inl k) => (none, 0, k)
  | .inl (.inr k) => (sendI k, 0, 0)
  | .inr (.inl k) => (recvI k, 0, 0)
  | .inr (.inr (.inl d)) => (wI (sl d.val), d.val / 2, 0)
  | .inr (.inr (.inr _)) => (xI, 0, 0)
theorem key_inj : Function.Injective key := by decide

def tokOf (p : Dev nD × TokIx) : GSem nD τ sig × ℕ × Fin 7 := (kcell (p.1, (key p.2).1), (key p.2).2.1, (key p.2).2.2)
theorem tokOf_inj : Function.Injective tokOf := by
  rintro ⟨c, i⟩ ⟨c', i'⟩ h
  have h1 := kcell_inj (congrArg Prod.fst h)
  have h2 : (key i).2 = (key i').2 := congrArg (fun t : GSem nD τ sig × ℕ × Fin 7 => t.2) h
  have hc : c = c' := congrArg Prod.fst h1
  have hi : i = i' := key_inj (Prod.ext (congrArg Prod.snd h1) h2)
  rw [hc, hi]
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

/-- The duty tokens of device `c`'s own cells. -/
def toks (c : Dev nD) : sProp 𝕄 :=
  iprop(((bigSep Finset.univ fun k : Fin 7 => dutyTok ER (barCell c) 0 k) ∗ bigSep Finset.univ fun k : Fin 7 => dutyTok ER (sendCell c k) 0 0)
    ∗ (bigSep Finset.univ fun k : Fin 7 => dutyTok ER (recvCell c k) 0 0) ∗ bigSep Finset.univ (wTok c) ∗ dutyTok ER (xCell c) 0 0)

theorem toks_eq (c : Dev nD) : (bigSep Finset.univ fun i : TokIx => (dutyTok ER (tokOf (c, i)).1 (tokOf (c, i)).2.1 (tokOf (c, i)).2.2 : sProp 𝕄)) = toks c := by
  rw [bigSep_univ_sum, bigSep_univ_sum, bigSep_univ_sum, bigSep_univ_sum, bigSep_univ_of_subsingleton ()]
  rfl

/-- What the launch element deals device `c`. -/
def G (c : Dev nD) : sProp 𝕄 :=
  iprop((bigSep Finset.univ fun x : Option (Fin 17) => roundState ER (Rd m) (kcell (c, x)) 0)
    ∗ atAll c ∗ (bigSep Finset.univ fun x : Option (Fin 17) => reached ER (kcell (c, x)) 0) ∗ toks c)

theorem over_cells (Φ : GSem nD τ sig → sProp 𝕄) :
    bigSep allCells Φ = bigSep Finset.univ fun c : Dev nD => bigSep Finset.univ fun x : Option (Fin 17) => Φ (kcell (c, x)) := by
  unfold allCells; rw [bigSep_map, bigSep_univ_prod]; rfl

theorem fund : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  unfold G atAll
  rw [bigSep_sep', bigSep_sep', bigSep_sep', ← over_cells (fun g => roundState ER (Rd m) g 0), ← over_cells (fun g => atPos ER g 0 ∅ 0),
    ← over_cells (fun g => reached ER g 0), ← hT]
  iintro HX
  imod (Rounds.fund ER (Rd m) allCells allToks) $$ HX with ⟨Hs, Hr, Ha, Ht⟩
  imodintro
  isplitl [Hs]; · iexact Hs
  isplitl [Ha]; · iexact Ha
  isplitl [Hr]; · iexact Hr
  iexact Ht

/-! ## Semaphores at zero -/

theorem univ_cells : (Finset.univ : Finset (Option (Fin 17))) = insert none (Finset.univ.map Function.Embedding.some) := by decide

theorem barrier_only (c : Dev nD) : (unscopedSems0 c : sProp 𝕄) = semVal (barCell c) 0 := by
  unfold unscopedSems0; rw [bigSep_eq_bigSepL_of_eq [SemLoc.reg barS] (by decide) (by decide)]; rfl
theorem zeros_eq (c : Dev nD) : (zeros c : sProp 𝕄) = iprop(unscopedSems0 c ∗ own0 c) := by
  unfold zeros
  rw [barrier_only, univ_cells, bigSep_insert (by decide), bigSep_map]
  rfl

/-! ## The tokens go round -/

theorem go_round (e : Fin 7 → Dev nD ≃ Dev nD) (Φ : Dev nD → Fin 7 → sProp 𝕄) :
    (bigSep Finset.univ fun c => bigSep Finset.univ fun k => Φ c k) = bigSep Finset.univ fun c => bigSep Finset.univ fun k => Φ (e k c) k := by
  rw [bigSep_univ_comm, bigSep_congr fun k _ => bigSep_univ_equiv (e k) fun c => Φ c k]
  exact bigSep_univ_comm _

theorem toks_around : (bigSep Finset.univ fun c : Dev nD => (toks c : sProp 𝕄)) ⊢ bigSep Finset.univ fun c : Dev nD => payToks c := by
  have hb : (bigSep Finset.univ fun c : Dev nD => bigSep Finset.univ fun k : Fin 7 => (dutyTok ER (barCell c) 0 k : sProp 𝕄))
      = bigSep Finset.univ fun c : Dev nD => bigSep Finset.univ (barTok c) := by
    rw [bigSep_congr fun c _ => bigSep_univ_equiv flip fun k : Fin 7 => (dutyTok ER (barCell c) 0 k : sProp 𝕄), go_round ring]
    rfl
  have hr : (bigSep Finset.univ fun c : Dev nD => bigSep Finset.univ fun k : Fin 7 => (dutyTok ER (recvCell c k) 0 0 : sProp 𝕄))
      = bigSep Finset.univ fun c : Dev nD => bigSep Finset.univ (recvTok c) := by
    rw [go_round ring]
    rfl
  unfold toks payToks
  simp only [bigSep_sep']
  rw [hb, hr]
  iintro ⟨⟨HB, HS⟩, HR, HW, HX⟩
  isplitl [HB]; · iexact HB
  isplitl [HS]; · iexact HS
  isplitl [HR]; · iexact HR
  isplitl [HW]; · iexact HW
  iexact HX

/-! ## The global step -/

def G' (c : Dev nD) : sProp 𝕄 := iprop(∃ K, ghost m K c)

theorem alloc (c : Dev nD) :
    iprop(own0 c ∗ unscopedSems0 c ∗ G m c)
      ⊢ |={Set.univ}=> iprop((bigSep Finset.univ fun x => iprop(∃ κ : ℕ, cellInv ER (Rd m) κ (kcell (c, x))))
          ∗ atAll c ∗ (bigSep Finset.univ fun x : Option (Fin 17) => reached ER (kcell (c, x)) 0) ∗ toks c) := by
  unfold G
  iintro ⟨Ho, Hu, Hs, Hrest⟩
  ihave Hz := (Entails.of_eq (zeros_eq (F := F) c).symm) $$ [Ho Hu]
  · isplitl [Hu]; · iexact Hu
    iexact Ho
  imod (show iprop(zeros c ∗ bigSep Finset.univ fun x : Option (Fin 17) => roundState ER (Rd m) (kcell (c, x)) 0)
      ⊢ (|={Set.univ}=> bigSep Finset.univ fun x => iprop(∃ κ : ℕ, cellInv ER (Rd m) κ (kcell (c, x))) : sProp 𝕄) from by
        unfold zeros
        rw [← bigSep_sep']
        exact (bigSep_mono fun x _ => (Rounds.body_intro ER (Rd m) (kcell (c, x))).trans inv_alloc).trans (bigSep_fupd _ _)) $$ [Hz Hs] with Hi
  · isplitl [Hz]; · iexact Hz
    iexact Hs
  imodintro
  isplitl [Hi]; · iexact Hi
  iexact Hrest

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun x => iprop(∃ κ : ℕ, cellInv ER (Rd m) κ (kcell (c, x))))
          ∗ atAll c ∗ (bigSep Finset.univ fun x : Option (Fin 17) => reached ER (kcell (c, x)) 0) ∗ toks c) : sProp 𝕄)
      ⊢ bigSep Finset.univ (G' m) := by
  rw [bigSep_sep', bigSep_sep', bigSep_sep', ← bigSep_univ_prod (fun p : Dev nD × Option (Fin 17) => iprop(∃ κ : ℕ, cellInv ER (Rd m) κ (kcell p))),
    ← bigSep_univ_prod (fun p : Dev nD × Option (Fin 17) => (reached ER (kcell p) 0 : sProp 𝕄))]
  iintro ⟨HI, Ha, #HR, Ht⟩
  ihave HK := (BI.bigSep_exists_pi Finset.univ (fun (p : Dev nD × Option (Fin 17)) (κ : ℕ) => (cellInv ER (Rd m) κ (kcell p) : sProp 𝕄))) $$ HI
  icases HK with ⟨%K, #HI⟩
  ihave Hp := (toks_around (F := F)) $$ Ht
  iapply (share_out (R := records m K) (Φ := fun c => iprop(atAll c ∗ payToks c)) fun c _ => show _ ⊢ G' m c from by
    unfold G' ghost
    iintro ⟨H, Ha, Hp⟩
    iexists K
    isplitl [H]; · iexact H
    isplitl [Ha]; · iexact Ha
    iexact Hp)
  isplitr
  · unfold records
    isplitl; · iexact HI
    iexact HR
  rw [bigSep_sep']
  isplitl [Ha]; · iexact Ha
  iexact Hp

theorem glob : (bigSep Finset.univ fun c => iprop(own0 c ∗ unscopedSems0 c ∗ G m c) : sProp 𝕄) ⊢ |={Set.univ}=> bigSep Finset.univ (G' m) :=
  ((bigSep_mono fun c _ => alloc m c).trans (bigSep_fupd _ _)).trans (BI.fupd_mono (regroup m))

/-! ## Credits -/

theorem tally_cell (p q : Dev nD × Option (Fin 17)) (n : ℕ) :
    (tallyAt (kcell p) () n : CellTallies nD τ sig Unit) (kcell q) () = (if q = p then 1 else 0) * n := by
  rw [tallyAt_apply]
  by_cases h : q = p
  · rw [if_pos ⟨kcell_eq_iff.mpr h, rfl⟩, if_pos h, one_mul]
  · rw [if_neg fun h' => h (kcell_eq_iff.mp h'.1), if_neg h, zero_mul]

/-- What device `d` owes a cell at launch. -/
theorem owed_at (d : Dev nD) (q : Dev nD × Option (Fin 17)) :
    O₀ d (kcell q) () = (∑ k : Fin 7, if q = (up d k, recvI k) then 1 else 0) * NC + (∑ k : Fin 7, if q = (up d k, none) then 1 else 0) := by
  unfold O₀ Orecv Obar
  rw [fr_zero, Pi.add_apply, Finsupp.add_apply, Finset.sum_apply, Finsupp.finset_sum_apply, Finset.sum_apply, Finsupp.finset_sum_apply, Finset.sum_mul]
  congr 1
  · exact Finset.sum_congr rfl fun k _ => tally_cell _ _ _
  · exact Finset.sum_congr rfl fun k _ => (tally_cell _ _ _).trans (mul_one _)

theorem owed_all (q : Dev nD × Option (Fin 17)) : ∑ d : Dev nD, O₀ d (kcell q) () =
    (∑ d : Dev nD, ∑ k : Fin 7, if q = (up d k, recvI k) then 1 else 0) * NC + ∑ d : Dev nD, ∑ k : Fin 7, if q = (up d k, none) then 1 else 0 := by
  rw [Finset.sum_congr rfl fun d _ => owed_at d q, Finset.sum_add_distrib, Finset.sum_mul]

theorem launch_cell (q : Dev nD × Option (Fin 17)) (n : ℕ) (h : ∑ d : Dev nD, O₀ d (kcell q) () = n) :
    tallyOn (kcell q) (launchCredit (Pipeline.owing O₀) 0 (kcell q)) = (tallyAt (kcell q) () n : CellTallies nD τ sig Unit) := by
  unfold tallyAt; refine congrArg _ (Finsupp.ext fun u => ?_); cases u
  rw [Pipeline.launchCredit_owing, Finsupp.single_eq_same, h]

theorem count_bar (c : Dev nD) : (∑ d : Dev nD, ∑ k : Fin 7, if (c, (none : Option (Fin 17))) = (up d k, recvI k) then 1 else 0) = 0
    ∧ (∑ d : Dev nD, ∑ k : Fin 7, if (c, (none : Option (Fin 17))) = (up d k, none) then 1 else 0) = 7 := by
  revert c; decide
theorem count_recv (c : Dev nD) (j : Fin 7) : (∑ d : Dev nD, ∑ k : Fin 7, if (c, recvI j) = (up d k, recvI k) then 1 else 0) = 1
    ∧ (∑ d : Dev nD, ∑ k : Fin 7, if (c, recvI j) = (up d k, none) then 1 else 0) = 0 := by
  revert c j; decide

theorem launch_bar (c : Dev nD) :
    tallyOn (barCell c) (launchCredit (Pipeline.owing O₀) 0 (barCell c)) = (tallyAt (barCell c) () 7 : CellTallies nD τ sig Unit) :=
  launch_cell _ _ (by rw [owed_all, (count_bar c).1, (count_bar c).2, zero_mul, zero_add])
theorem launch_recv (c : Dev nD) (j : Fin 7) :
    tallyOn (recvCell c j) (launchCredit (Pipeline.owing O₀) 0 (recvCell c j)) = (tallyAt (recvCell c j) () NC : CellTallies nD τ sig Unit) :=
  launch_cell _ _ (by rw [owed_all, (count_recv c j).1, (count_recv c j).2, one_mul, add_zero])

theorem rsem_inj : Function.Injective fun j : Fin 7 => csem (recvI j) := csem_inj.comp recvI_inj

theorem creds (c : Dev nD) : (Pipeline.launchCred O₀ c : sProp 𝕄) ⊢ iprop(cred (tallyAt (barCell c) () 7) ∗ bigSep Finset.univ (recvCred c)) := by
  unfold Pipeline.launchCred
  rw [bigSep_univ_at _ (SemLoc.reg barS), launch_bar]
  refine sep_mono_right ?_
  refine (bigSep_subset (t := Finset.univ.map ⟨_, rsem_inj⟩) fun sm h => ?_).trans ?_
  · obtain ⟨j, -, rfl⟩ := Finset.mem_map.mp h
    exact Finset.mem_erase.mpr ⟨(fun h' : csem (recvI j) = csem none => absurd (csem_inj h') (by simp)), Finset.mem_univ _⟩
  · rw [bigSep_map]
    exact bigSep_mono fun j _ => Entails.of_eq (congrArg cred (launch_recv c j))

end Cert.A2A

end
-- ==== Proof.Run.lean ====
/- The whole run on all devices: it ends, with every device's result block computed, its arguments as they were and every semaphore at zero. -/
module

public import proofs.«01_k».proof.Proof.Deal
public import Idealize.ShloMosaic.Lib.Pipeline.CollectiveSegs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

theorem ownSemFacts : Pipeline.OwnSemFacts cfg0.spec osem := by decide
theorem share_eq (c : Dev nD) (w : Fin cfg0.W) : (dats m 0 c).share w = fullShare := by unfold Dat.share; split <;> rfl

/-! ## The two ends of the region -/

/-- What the kernel never gets hold of: half of each array it only reads. -/
def kept (c : Dev nD) : sProp 𝕄 :=
  iprop((((c : Thread nD τ).loc main_arg0) ↦{fullShare.left} xIn m c) ∗ (((c : Thread nD τ).loc main_arg1) ↦{fullShare.left} wIn m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  iintro ⟨⟨H0, H1⟩, Hl, Hc, -, HG⟩
  ihave Hc := (creds (F := F) c) $$ Hc
  icases Hc with ⟨Hb, Hr⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  imodintro
  unfold start G' given xAny wAny kept
  isplitr [H0l H1l]
  · isplitl [HG]; · iexact HG
    isplitl [Hb]; · iexact Hb
    isplitl [Hr]; · iexact Hr
    isplitl [Hl]; · iexact Hl
    isplitl [H0r]; · iexists _; iexact H0r
    iexists _; iexact H1r
  isplitl [H0l]; · iexact H0l
  iexact H1l

theorem rest_bufs (c : Dev nD) : (Pipeline.scopedRest cfg0.spec c : sProp 𝕄) = bufs c := by
  rw [scopedRest0_eq]
  rfl

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_bufs]
  unfold Φ₀
  iintro ⟨Hs, -, Hb⟩
  isplitl [Hs]; · iexact Hs
  iexact Hb

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, rest_bufs]
  unfold Φ₁
  rw [zeros_eq]
  iintro ⟨Hb, Hu, Ho⟩
  isplitl [Hu]; · iexact Hu
  isplitl [Ho]; · iexact Ho
  iexact Hb

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr rfl)

/-! ## The run -/

/-- Window `w`'s array of device `c` after the run. -/
def finalA (c : Dev nD) (w : Fin cfg0.W) : Buf (Elt F) ((cfg0.win w).arr.view.loc (c : Thread nD τ)) := (dats m 0 c).arrAt w cfg0.N

/-- What is read at the end besides the windows: the two arrays read by copies, and the unscoped semaphores. -/
def atEnd (c : Dev nD) (s : MemSt nD τ sig (Elt F)) : Prop :=
  s.mem ((c : Thread nD τ).loc main_arg0) = xIn m c ∧ s.mem ((c : Thread nD τ).loc main_arg1) = wIn m c
    ∧ ∀ sm : SemLoc sig, sm.isScoped .tc = false → s.sem ((c : Thread nD τ), sm) = 0

theorem read_end (c : Dev nD) (s' : Phys nD τ sig (Elt F)) :
    iprop(unscopedSems0 c ∗ kept m c ∗ SI s') ⊢ (|={Set.univ}=> iprop(⌜atEnd m c s'.mem⌝ ∗ SI s') : sProp 𝕄) := by
  unfold kept
  iintro ⟨Hu, ⟨H0, H1⟩, HSI⟩
  icombine HSI H0 gives %h0
  icombine HSI H1 gives %h1
  imod (Pipeline.unscopedSems0_read (X := unscopedSems0 c) (c := c) fupd_intro s') $$ [Hu HSI] with ⟨%hz, HSI⟩
  · isplitl [Hu]; · iexact Hu
    iexact HSI
  imodintro
  isplitr
  · ipureintro
    exact ⟨Buf.eq_of_forall_mem_univ h0, Buf.eq_of_forall_mem_univ h1, hz⟩
  iexact HSI

set_option maxRecDepth 8000 in
theorem run_windows (ρ : Dev nD → PrngReg) : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ atEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := enter m) (hout := leave m)
    (QY := atEnd m) (hY := read_end m)
    (hQ := fun _ h hs => ⟨fun c => ⟨(h c).1, (h c).2.2⟩, sem_eq_zero hs fun c => (h c).2.2.2.2⟩)

/-! ## The windows' arrays -/

theorem final_s2 (c : Dev nD) : finalA m c 0 = m ((c : Thread nD τ).loc main_arg2) := (dats (F := F) m 0 c).arrAt_in (0 : Fin 3) rfl _
theorem final_s3 (c : Dev nD) : finalA m c 1 = m ((c : Thread nD τ).loc main_arg3) := (dats (F := F) m 0 c).arrAt_in (1 : Fin 3) rfl _
theorem final_blk (c : Dev nD) : (win0_2.blk (0 : Fin 1)).view.read (Elt F) (finalA m c 2) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- Each window is one block, the whole array. -/
theorem read_s2 (f) : (win0_0.blk (0 : Fin 1)).view.read (Elt F) f = f :=
  Memref.read_access_unit_zero (Elt F) main_arg2 (funext fun a => by fin_cases a <;> decide) (fun a => by fin_cases a <;> decide) f
theorem read_s3 (f) : (win0_1.blk (0 : Fin 1)).view.read (Elt F) f = f :=
  Memref.read_access_unit_zero (Elt F) main_arg3 (funext fun a => by fin_cases a <;> decide) (fun a => by fin_cases a <;> decide) f
theorem read_out (f) : (win0_2.blk (0 : Fin 1)).view.read (Elt F) f = f :=
  Memref.read_access_unit_zero (Elt F) main_v1 (funext fun a => by fin_cases a <;> decide) (fun a => by fin_cases a <;> decide) f

theorem final_out (c : Dev nD) : finalA m c 2 = outAt m c := by
  rw [← read_out (finalA m c 2)]
  exact final_blk m c

/-- What device `c`'s result array ends at, over its scales as launched. -/
theorem outAt_eq (c : Dev nD) : outAt m c
    = k0_pay1 (k0_pay5 (m ((c : Thread nD τ).loc main_arg2) i0) (m ((c : Thread nD τ).loc main_arg3) i0)) (acc m c 7) := by
  unfold outAt sc2 sc3
  rw [read_s2, read_s3]

/-- The run of the kernel on the eight devices, for any float values: device `c`'s result array ends at the scaled sum of
    the products it accumulated, its four arguments unchanged, and every semaphore of the machine at zero. -/
theorem run_main (ρ : Dev nD → PrngReg) : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs _ _).mono (fun r h => ⟨fun c => ?_, h.2⟩) (run_windows m ρ)
  obtain ⟨hw, h0, h1, -⟩ := h.1 c
  refine ⟨(hw 2).trans (final_out m c), h0, h1, (hw 0).trans (final_s2 m c), (hw 1).trans (final_s3 m c)⟩

end Cert.A2A

end
-- ==== Proof.Frames.lean ====
/- The three frame claims: the kernel at its own float values and over the extended reals, from one run, and the
   reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

/-- The arguments are as launched on every device, and every semaphore is at zero. -/
def Kept {F : FTy → Type} (m : (ℓ : Loc Cert.KernelIdeal.nD Cert.KernelIdeal.τ Cert.KernelIdeal.sig) → Buf (Elt F) ℓ)
    (s : MemSt Cert.KernelIdeal.nD Cert.KernelIdeal.τ Cert.KernelIdeal.sig (Elt F)) : Prop :=
  (∀ c : Dev Cert.KernelIdeal.nD,
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3))
  ∧ s.sem = fun _ => 0

theorem ideal_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => Kept m r.2) :=
  (θ_run Cert.KernelIdeal.defs _ _).mono (fun _ h => ⟨fun c => (h.1 c).2, h.2⟩) (Cert.A2A.run_main (F := F) m ρ)

/-! ## The two printings of the kernel are one program -/

theorem same_body {F : FTy → Type} [FloatOps F] : @Cert.Kernel.cc0_body F _ _ = @Cert.KernelIdeal.cc0_body F _ _ := rfl
theorem same_table {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => dsimp only; rw [same_body]
  | ⟨_ + 1, h⟩, _ => exact absurd h (Nat.not_lt.2 (Nat.le_add_left _ _))
theorem same_defs {F : FTy → Type} [FloatOps F] : Cert.Kernel.defs (F := F) = Cert.KernelIdeal.defs := by
  unfold Cert.Kernel.defs Cert.KernelIdeal.defs
  rw [same_table]
  rfl
theorem same_main {F : FTy → Type} [FloatOps F] : Cert.Kernel.main (F := F) = Cert.KernelIdeal.main := rfl

/-- The kernel as printed for its own floats is, over any float values, the program that the run is about: it terminates,
    leaves its arguments and puts every semaphore back to zero. -/
theorem printed_run {F : FTy → Type} [FloatOps F] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ (fun r => Kept m r.2) := by
  rw [same_defs, same_main]
  exact ideal_run (F := F) m ρ

/-- The kernel at its own floats terminates, leaves its arguments and puts every semaphore back to zero. -/
theorem frame_kernel : Cert.quiescent_Kernel := fun m ρ _ => printed_run (F := Bits) m ρ

/-- So does the kernel over the extended reals, -/
theorem frame_ideal : Cert.quiescent_KernelIdeal := fun m ρ _ => ideal_run (F := Ideal) m ρ

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.ValBlock.lean ====
/- The blocks, one product and the accumulator over the extended reals, entry by entry. -/
module

public import proofs.«01_k».proof.Proof.Run
public import Idealize.ShloMosaic.Lib.MatmulPlain
public import Idealize.ShloMosaic.Lib.ValueIdx
public import Idealize.ShloMosaic.Lib.Layout

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators

variable (m : (ℓ : Loc nD τ sig) → Buf (Elt Ideal) ℓ)

/-- Row `r` of the 512 rows that start at `512 j`. -/
abbrev row (j : Dev nD) (r : Fin 512) : Fin 4096 := ⟨512 * j.val + r.val, by have : j.val < 8 := j.isLt; have := r.isLt; omega⟩

/-- Device `c`'s activations and weights, as extended reals. -/
abbrev xE (c : Dev nD) : S4096x512.Idx → EReal := xIn m c
abbrev wE (c : Dev nD) : S4096x8192.Idx → EReal := wIn m c

/-- Over the extended reals the cast to 8-bit floats changes nothing. -/
theorem xq_ideal (c : Dev nD) : xq (F := Ideal) m c = xIn m c :=
  funext fun j => congrArg (xIn m c) (Shape.reshapeEquiv_self _ j)

theorem blk_at (c j : Dev nD) (r k : Fin 512) :
    blk (F := Ideal) m c j (ix2 r k) = xE m c (ix2 (row j r) k) := by
  unfold blk
  rw [xq_ideal]
  refine congrArg (xIn m c) (funext fun a => Fin.ext ?_)
  match a with
  | ⟨0, _⟩ => show 512 * j.val + 1 * r.val = 512 * j.val + r.val; omega
  | ⟨1, _⟩ => show 0 + 1 * k.val = k.val; omega

theorem wblk_at (c : Dev nD) (d : ℕ) (k : Fin 512) (n : Fin 8192) :
    wblk (F := Ideal) m c d (ix2 k n) = wE m c (ix2 (row (dn c d) k) n) := by
  unfold wblk
  refine congrArg (wIn m c) (funext fun a => Fin.ext ?_)
  match a with
  | ⟨0, _⟩ => show 512 * (dn c d).val + 1 * k.val = 512 * (dn c d).val + k.val; omega
  | ⟨1, _⟩ => show 0 + 1 * n.val = n.val; omega

theorem mm_at (a : S512x512.Idx → EReal) (w : S512x8192.Idx → EReal) (r : Fin 512) (n : Fin 8192) :
    mm (F := Ideal) a w (ix2 r n) = ∑ k : Fin 512, a (ix2 r k) * w (ix2 k n) := by
  have h := Ideal.matmul_plain_apply (M := 512) (K := 512) (N := 8192) (φ₁ := .fp8e4m3) none a (truncf (F := Ideal) .fp8e4m3 w bitsLt_fp8e4m3_f32)
    (constant (F := Ideal) S512x8192 .f32 0x00000000#32) r n
  refine Eq.trans h ?_
  show Ideal.ofBits .f32 0x00000000#32 + _ = _
  rw [Ideal.ofBits_zero_f32, zero_add]
  rfl

/-- What the activations of device `s` add to entry `(r, n)` of device `c`'s result. -/
def part (c : Dev nD) (r : Fin 512) (n : Fin 8192) (s : Dev nD) : EReal :=
  ∑ k : Fin 512, xE m s (ix2 (row c r) k) * wE m c (ix2 (row s k) n)

theorem step_at (c : Dev nD) (d : ℕ) (r : Fin 512) (n : Fin 8192) :
    mm (F := Ideal) (blk m (dn c d) c) (wblk m c d) (ix2 r n) = part m c r n (dn c d) := by
  rw [mm_at]
  exact Finset.sum_congr rfl fun k _ => congrArg₂ (fun a b : EReal => a * b) (blk_at m (dn c d) c r k) (wblk_at m c d k n)

theorem acc_at (c : Dev nD) (r : Fin 512) (n : Fin 8192) (k : ℕ) :
    acc (F := Ideal) m c k (ix2 r n) = ∑ d ∈ Finset.range (k + 1), part m c r n (dn c d) := by
  induction k with
  | zero =>
    rw [Finset.sum_range_one, ← step_at, dn_zero]
    rfl
  | succ k ih =>
    rw [Finset.sum_range_succ, ← ih, ← step_at]
    rfl

end Cert.A2A

end
-- ==== Proof.ValSum.lean ====
/- The accumulator's last value over the extended reals as one sum of 4096 products. -/
module

public import proofs.«01_k».proof.Proof.ValBlock

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators

variable (m : (ℓ : Loc nD τ sig) → Buf (Elt Ideal) ℓ)

/-- The devices counted backwards from `c`, as a permutation. -/
def back (c : Dev nD) : Fin 8 ≃ Dev nD :=
  ⟨fun d => dn c d.val, fun s => dn c s.val, fun d => by revert c d; decide, fun s => by revert c s; decide⟩

/-- The order in which a device meets the others does not change the sum. -/
theorem acc_all (c : Dev nD) (r : Fin 512) (n : Fin 8192) :
    acc (F := Ideal) m c 7 (ix2 r n) = ∑ s : Dev nD, part m c r n s := by
  rw [acc_at, Finset.sum_range]
  exact Equiv.sum_comp (back c) (part m c r n)

/-- Eight sums of 512 terms are one sum of 4096. -/
theorem sum_rows (f : Fin 4096 → EReal) : ∑ s : Dev nD, ∑ k : Fin 512, f (row s k) = ∑ q : Fin 4096, f q := by
  refine Eq.trans (Fintype.sum_prod_type' (fun (s : Fin 8) (k : Fin 512) => f (row s k))).symm ?_
  refine Fintype.sum_equiv (finProdFinEquiv (m := 8) (n := 512)) _ f fun x => congrArg f (Fin.ext ?_)
  show 512 * x.1.val + x.2.val = x.2.val + 512 * x.1.val
  omega

/-- When each device holds 512 columns of `X` and all hold `W`, device `c`'s accumulator ends as its rows of `X W`. -/
theorem acc_product (X : (⟨2, ![4096, 4096]⟩ : Shape).Idx → EReal) (W : S4096x8192.Idx → EReal)
    (hx : ∀ (s : Dev nD) (q : Fin 4096) (k : Fin 512), xE m s (ix2 q k) = X (ix2 q (row s k)))
    (c : Dev nD) (hw : wE m c = W) (r : Fin 512) (n : Fin 8192) :
    acc (F := Ideal) m c 7 (ix2 r n) = ∑ q : Fin 4096, X (ix2 (row c r) q) * W (ix2 q n) := by
  rw [acc_all, ← sum_rows]
  refine Finset.sum_congr rfl fun s _ => Finset.sum_congr rfl fun k _ => ?_
  rw [hx, hw]

end Cert.A2A

end
-- ==== Proof.ValRef.lean ====
/- The reference's result over the extended reals, entry by entry: a sum of products times the product of the scales. -/
module

public import proofs.«01_k».proof.Proof.Gen.ReferenceIdeal
public import proofs.«01_k».proof.Proof.Gen.ReferenceIdeal.Run
public import Idealize.ShloMosaic.Lib.StackMember
public import Idealize.ShloMosaic.Lib.ValueIdx

@[expose] public section

noncomputable section

namespace Cert.Proof

open Cert.ReferenceIdeal Cert.ReferenceIdeal.Gen
open Idealize.ShloMosaic Idealize.ShloMosaic.ValueIdx
open scoped BigOperators

/-- What the reference computes from its four arguments. -/
def refOut (X : FVec Ideal S4096x4096 .f32) (W : FVec Ideal S4096x8192 .f32) (a b : FVec Ideal S1 .f32) : FVec Ideal S4096x8192 .f32 :=
  mulf (Host.dotGeneral dot_S4096x4096_S4096x8192_S4096x8192_1_0_0_1_n_n none X W)
    (broadcastInDim S4096x8192 ![0, 1] bcast_S1x1_S4096x8192_0_1 (broadcastInDim S1x1 ![1] bcast_S1_S1x1_1 (mulf a b)))

/-- A one-element array has one index. -/
theorem one_index (i j : S1.Idx) : i = j := by
  funext x
  match x with
  | ⟨0, _⟩ =>
    have hi : (i 0).val < 1 := (i 0).isLt
    have hj : (j 0).val < 1 := (j 0).isLt
    exact Fin.ext (by show (i 0).val = (j 0).val; omega)

theorem refOut_at (X : S4096x4096.Idx → EReal) (W : S4096x8192.Idx → EReal) (a b : S1.Idx → EReal) (i : S1.Idx) (q : Fin 4096) (n : Fin 8192) :
    refOut X W a b (ix2 q n) = (∑ k : Fin 4096, X (ix2 q k) * W (ix2 k n)) * (a i * b i) := by
  refine congrArg₂ (fun x y : EReal => x * y) (StackMember.dotGeneral_plain_apply (m := 4096) (n := 8192) (φ₁ := .f32) (φ₂ := .f32) none X W q n) ?_
  exact congrArg (fun j => a j * b j) (one_index _ i)

end Cert.Proof

end
-- ==== Proof.Algebraic.lean ====
/- The kernel and the reference compute the same function over the extended reals. -/
module

public import proofs.«01_k».proof.Defs
public import proofs.«01_k».proof.Proof.ValSum
public import proofs.«01_k».proof.Proof.ValRef

@[expose] public section

noncomputable section

namespace Cert.Proof

open Cert.A2A
open Idealize.ShloMosaic Idealize.ShloMosaic.ValueIdx Idealize.SL.Sem
open scoped BigOperators

/-- Device `c` ends holding its 512 rows of what the reference computes. -/
theorem out_block (m : (ℓ : Loc Cert.KernelIdeal.nD Cert.KernelIdeal.τ Cert.KernelIdeal.sig) → Buf (Elt Ideal) ℓ)
    (X : (⟨2, ![4096, 4096]⟩ : Shape).Idx → EReal) (W : Cert.KernelIdeal.S4096x8192.Idx → EReal) (a b : Cert.KernelIdeal.S1.Idx → EReal)
    (c : Dev Cert.KernelIdeal.nD)
    (hx : ∀ s : Dev Cert.KernelIdeal.nD, xE m s = Layout.block ⟨2, ![4096, 512]⟩ ⟨2, ![4096, 4096]⟩ 1 8 s X)
    (hw : wE m c = W)
    (ha : (m ((c.tc : Thread Cert.KernelIdeal.nD Cert.KernelIdeal.τ).loc Cert.KernelIdeal.main_arg2) : Cert.KernelIdeal.S1.Idx → EReal) = a)
    (hb : (m ((c.tc : Thread Cert.KernelIdeal.nD Cert.KernelIdeal.τ).loc Cert.KernelIdeal.main_arg3) : Cert.KernelIdeal.S1.Idx → EReal) = b) :
    outAt (F := Ideal) m c = Layout.block ⟨2, ![512, 8192]⟩ ⟨2, ![4096, 8192]⟩ 0 8 c (refOut X W a b) := by
  have hx' : ∀ (s : Dev Cert.KernelIdeal.nD) (q : Fin 4096) (k : Fin 512), xE m s (ix2 q k) = X (ix2 q (row s k)) := by
    intro s q k
    rw [hx, Layout.block_apply]
    refine congrArg X (funext fun x => Fin.ext ?_)
    match x with
    | ⟨0, _⟩ => rfl
    | ⟨1, _⟩ => show s.val * 512 + k.val = 512 * s.val + k.val; omega
  funext j
  obtain ⟨r, n, rfl⟩ : ∃ (r : Fin 512) (n : Fin 8192), j = ix2 r n := ⟨j 0, j 1, eq_ix2 j⟩
  rw [Layout.block_apply]
  have hj : (Layout.Tiles.idx (S := ⟨2, ![512, 8192]⟩) (T := ⟨2, ![4096, 8192]⟩) (a := 0) (k := 8) (by decide) c (ix2 r n)) = ix2 (row c r) n := by
    funext x
    refine Fin.ext ?_
    match x with
    | ⟨0, _⟩ => show c.val * 512 + r.val = 512 * c.val + r.val; omega
    | ⟨1, _⟩ => rfl
  refine Eq.trans ?_ (congrArg (refOut X W a b) hj).symm
  rw [refOut_at X W a b i0, ← acc_product m X W hx' c hw, outAt_eq]
  subst ha hb
  exact congrArg (fun i => acc (F := Ideal) m c 7 i * (_ : EReal)) (Shape.reshapeEquiv_self _ (ix2 r n))

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ h c => ⟨(h.1 c).1.trans ?_, (h.1 c).2⟩) (Cert.A2A.run_main (F := Ideal) m ρ)
    exact out_block m _ _ _ _ c (fun s => (hagree s).1) (hagree c).2.1 (hagree c).2.2.1 (hagree c).2.2.2
  · exact (θ_run Cert.ReferenceIdeal.defs _ _).mono (fun _ h => h 0) (Cert.ReferenceIdeal.Value.run (F := Ideal) m' ρ')

end Cert.Proof

end
-- ==== Proof.lean ====
/- The claims of this certificate, assembled. -/
module

public import proofs.«01_k».proof.Defs
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
